-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x8x48x2x128 Cert.KernelIdeal.S2x8x48x1x128
  ∧ IdealRules.bf16_pair.BufferStatement Cert.KernelIdeal.S8x576x2x128 Cert.KernelIdeal.S8x576x1x128
  ∧ IdealRules.bf16_pair.Statement Cert.KernelIdeal.S16x128 Cert.KernelIdeal.S8x128
  ∧ IdealRules.bf16_pair.Statement Cert.KernelIdeal.S1x1x8x2x128 Cert.KernelIdeal.S1x1x8x1x128
  ∧ IdealRules.bf16_pair.Statement Cert.KernelIdeal.S1x1x1x2x128 Cert.KernelIdeal.S1x1x1x1x128
  ∧ IdealRules.bf16_pair.Statement Cert.KernelIdeal.S384x128 Cert.KernelIdeal.S192x128
  ∧ IdealRules.bf16_pair.Statement Cert.KernelIdeal.S1x192x2x128 Cert.KernelIdeal.S1x192x1x128
  ∧ IdealRules.bf16_pair.Statement Cert.KernelIdeal.S1x8x2x128 Cert.KernelIdeal.S1x8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x384x6144 : Shape := ⟨3, ![3, 384, 6144]⟩
abbrev S6144x2048 : Shape := ⟨2, ![6144, 2048]⟩
abbrev S48x16384 : Shape := ⟨2, ![48, 16384]⟩
abbrev S1152x6144 : Shape := ⟨2, ![1152, 6144]⟩
abbrev S1152x16384 : Shape := ⟨2, ![1152, 16384]⟩
abbrev S6144x128 : Shape := ⟨2, ![6144, 128]⟩
abbrev S48x1024 : Shape := ⟨2, ![48, 1024]⟩
abbrev S1152x1024 : Shape := ⟨2, ![1152, 1024]⟩
abbrev S2x6144x256 : Shape := ⟨3, ![2, 6144, 256]⟩
abbrev S2x8x48x128 : Shape := ⟨4, ![2, 8, 48, 128]⟩
abbrev S8x576x128 : Shape := ⟨3, ![8, 576, 128]⟩
abbrev S8x128 : Shape := ⟨2, ![8, 128]⟩
abbrev S16x128 : Shape := ⟨2, ![16, 128]⟩
abbrev S16x128x1 : Shape := ⟨3, ![16, 128, 1]⟩
abbrev S1x1x8x128 : Shape := ⟨4, ![1, 1, 8, 128]⟩
abbrev S1x1x1x128 : Shape := ⟨4, ![1, 1, 1, 128]⟩
abbrev S1x128 : Shape := ⟨2, ![1, 128]⟩
abbrev S1x16x128 : Shape := ⟨3, ![1, 16, 128]⟩
abbrev S384x6144 : Shape := ⟨2, ![384, 6144]⟩
abbrev S1x6144x256 : Shape := ⟨3, ![1, 6144, 256]⟩
abbrev S6144x256 : Shape := ⟨2, ![6144, 256]⟩
abbrev S384x256 : Shape := ⟨2, ![384, 256]⟩
abbrev S384x128 : Shape := ⟨2, ![384, 128]⟩
abbrev S192x128 : Shape := ⟨2, ![192, 128]⟩
abbrev S1x192x128 : Shape := ⟨3, ![1, 192, 128]⟩
abbrev S1x8x128 : Shape := ⟨3, ![1, 8, 128]⟩

abbrev nBuf : Space → Nat
  | .hbm => 7
  | .vmem => 14
  | .smem => 0
  | _ => 0

abbrev bufTy : (tb : Table) → Fin (tcTables nBuf tb) → BufTy
  | .hbm, ⟨0, _⟩ => ⟨S3x384x6144, .bf16⟩
  | .hbm, ⟨1, _⟩ => ⟨S6144x2048, .i32⟩
  | .hbm, ⟨2, _⟩ => ⟨S48x16384, .bf16⟩
  | .hbm, ⟨3, _⟩ => ⟨S6144x2048, .i32⟩
  | .hbm, ⟨4, _⟩ => ⟨S48x16384, .bf16⟩
  | .hbm, ⟨5, _⟩ => ⟨S1152x6144, .bf16⟩
  | .hbm, ⟨6, _⟩ => ⟨S1152x16384, .bf16⟩
  | .local _ .vmem, ⟨0, _⟩ => ⟨S1152x6144, .bf16⟩
  | .local _ .vmem, ⟨1, _⟩ => ⟨S6144x128, .i32⟩
  | .local _ .vmem, ⟨2, _⟩ => ⟨S6144x128, .i32⟩
  | .local _ .vmem, ⟨3, _⟩ => ⟨S48x1024, .bf16⟩
  | .local _ .vmem, ⟨4, _⟩ => ⟨S48x1024, .bf16⟩
  | .local _ .vmem, ⟨5, _⟩ => ⟨S6144x128, .i32⟩
  | .local _ .vmem, ⟨6, _⟩ => ⟨S6144x128, .i32⟩
  | .local _ .vmem, ⟨7, _⟩ => ⟨S48x1024, .bf16⟩
  | .local _ .vmem, ⟨8, _⟩ => ⟨S48x1024, .bf16⟩
  | .local _ .vmem, ⟨9, _⟩ => ⟨S1152x1024, .bf16⟩
  | .local _ .vmem, ⟨10, _⟩ => ⟨S1152x1024, .bf16⟩
  | .local _ .vmem, ⟨11, _⟩ => ⟨S2x6144x256, .bf16⟩
  | .local _ .vmem, ⟨12, _⟩ => ⟨S2x8x48x128, .i32⟩
  | .local _ .vmem, ⟨13, _⟩ => ⟨S8x576x128, .i32⟩
  | _, _ => ⟨S3x384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨2, ![16, 4], ![false, false]⟩

@[reducible] def k0_t1_loop : Scf.Loop 32 :=
  let c0_i32_2 : BitVec 32 := 0#32
  let c48_i32 : BitVec 32 := 48#32
  let v4 : BitVec 32 := Scalar.addi c0_i32_2 c48_i32
  let c1_i32 : BitVec 32 := 1#32
  ⟨c0_i32_2, v4, c1_i32⟩
def k0_off1 (i : grid0.Coords) (k0_t1 : Fin k0_t1_loop.trips) (c0_i32_75 : BitVec 32) : Fin 4 → Nat :=
  let c0_80 : Index := 0#32
  let c2_i32_74 : BitVec 32 := 2#32
  let arg1 : BitVec 32 := BitVec.ofNat 32 (i 1).val
  let v122 : BitVec 32 := Scalar.muli c2_i32_74 arg1
  let v123 : BitVec 32 := Scalar.addi v122 c0_i32_75
  let c4_i32_76 : BitVec 32 := 4#32
  let v124 : BitVec 1 := Scalar.cmpi .slt v123 c4_i32_76
  let c2_i32_77 : BitVec 32 := 2#32
  let v125 : BitVec 32 := Scalar.muli c2_i32_77 v123
  let c2_i32_78 : BitVec 32 := 2#32
  let v126 : BitVec 32 := Scalar.muli c2_i32_78 v123
  let c7_i32_79 : BitVec 32 := 7#32
  let v127 : BitVec 32 := Scalar.subi v126 c7_i32_79
  let v128 : BitVec 32 := Scalar.select v124 v125 v127
  let v129 : Index := Scalar.indexCast v128
  let c0_i32_2 : BitVec 32 := 0#32
  let c1_i32 : BitVec 32 := 1#32
  let arg11 : BitVec 32 := Scf.iv c0_i32_2 c1_i32 k0_t1
  let v130 : Index := Scalar.indexCast arg11
  let c0_81 : Index := 0#32
  ![0, v129.toNat, v130.toNat, 0]
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let c0_i32_90 : BitVec 32 := 0#32
  let v149 : BitVec 32 := Scalar.addi v148 c0_i32_90
  v149
def k0_off2 (k0_t1 : Fin k0_t1_loop.trips) (c0_i32_90 : BitVec 32) : Fin 2 → Nat :=
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let v151 : Index := Scalar.indexCast v150
  let c0_91 : Index := 0#32
  ![v151.toNat, 0]
def k0_off3 (k0_t1 : Fin k0_t1_loop.trips) (c0_i32_90 : BitVec 32) : Fin 2 → Nat :=
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let c1_i32_92 : BitVec 32 := 1#32
  let v156 : BitVec 32 := Scalar.addi v150 c1_i32_92
  let v157 : Index := Scalar.indexCast v156
  let c0_93 : Index := 0#32
  ![v157.toNat, 0]
def k0_off4 (k0_t1 : Fin k0_t1_loop.trips) (c0_i32_90 : BitVec 32) : Fin 3 → Nat :=
  let c0_97 : Index := 0#32
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let v177 : Index := Scalar.indexCast v150
  let c0_98 : Index := 0#32
  ![0, v177.toNat, 0]
def k0_off5 (k0_t1 : Fin k0_t1_loop.trips) (c0_i32_90 : BitVec 32) : Fin 3 → Nat :=
  let c0_103 : Index := 0#32
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let v191 : Index := Scalar.indexCast v150
  let c128 : Index := 128#32
  ![0, v191.toNat, 128]
def k0_mult2 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_104 : BitVec 32 := 128#32
  let v195 : BitVec 32 := Scalar.muli arg11 c128_i32_104
  let c16_i32_105 : BitVec 32 := 16#32
  let v196 : BitVec 32 := Scalar.addi v195 c16_i32_105
  v196
def k0_mult3 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_124 : BitVec 32 := 128#32
  let v242 : BitVec 32 := Scalar.muli arg11 c128_i32_124
  let c32_i32 : BitVec 32 := 32#32
  let v243 : BitVec 32 := Scalar.addi v242 c32_i32
  v243
def k0_mult4 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_143 : BitVec 32 := 128#32
  let v289 : BitVec 32 := Scalar.muli arg11 c128_i32_143
  let c48_i32_144 : BitVec 32 := 48#32
  let v290 : BitVec 32 := Scalar.addi v289 c48_i32_144
  v290
def k0_mult5 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_163 : BitVec 32 := 128#32
  let v336 : BitVec 32 := Scalar.muli arg11 c128_i32_163
  let c64_i32 : BitVec 32 := 64#32
  let v337 : BitVec 32 := Scalar.addi v336 c64_i32
  v337
def k0_mult6 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_182 : BitVec 32 := 128#32
  let v383 : BitVec 32 := Scalar.muli arg11 c128_i32_182
  let c80_i32 : BitVec 32 := 80#32
  let v384 : BitVec 32 := Scalar.addi v383 c80_i32
  v384
def k0_mult7 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_201 : BitVec 32 := 128#32
  let v430 : BitVec 32 := Scalar.muli arg11 c128_i32_201
  let c96_i32 : BitVec 32 := 96#32
  let v431 : BitVec 32 := Scalar.addi v430 c96_i32
  v431
def k0_mult8 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_220 : BitVec 32 := 128#32
  let v477 : BitVec 32 := Scalar.muli arg11 c128_i32_220
  let c112_i32 : BitVec 32 := 112#32
  let v478 : BitVec 32 := Scalar.addi v477 c112_i32
  v478
def k0_off6 (i : grid0.Coords) (k0_t1 : Fin k0_t1_loop.trips) (c0_i32_240 : BitVec 32) : Fin 4 → Nat :=
  let c1_245 : Index := 1#32
  let c2_i32_239 : BitVec 32 := 2#32
  let arg1 : BitVec 32 := BitVec.ofNat 32 (i 1).val
  let v524 : BitVec 32 := Scalar.muli c2_i32_239 arg1
  let v525 : BitVec 32 := Scalar.addi v524 c0_i32_240
  let c4_i32_241 : BitVec 32 := 4#32
  let v526 : BitVec 1 := Scalar.cmpi .slt v525 c4_i32_241
  let c2_i32_242 : BitVec 32 := 2#32
  let v527 : BitVec 32 := Scalar.muli c2_i32_242 v525
  let c2_i32_243 : BitVec 32 := 2#32
  let v528 : BitVec 32 := Scalar.muli c2_i32_243 v525
  let c7_i32_244 : BitVec 32 := 7#32
  let v529 : BitVec 32 := Scalar.subi v528 c7_i32_244
  let v530 : BitVec 32 := Scalar.select v526 v527 v529
  let v531 : Index := Scalar.indexCast v530
  let c0_i32_2 : BitVec 32 := 0#32
  let c1_i32 : BitVec 32 := 1#32
  let arg11 : BitVec 32 := Scf.iv c0_i32_2 c1_i32 k0_t1
  let v532 : Index := Scalar.indexCast arg11
  let c0_246 : Index := 0#32
  ![1, v531.toNat, v532.toNat, 0]
def k0_mult9 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_255 : BitVec 32 := 128#32
  let v550 : BitVec 32 := Scalar.muli arg11 c128_i32_255
  let c0_i32_256 : BitVec 32 := 0#32
  let v551 : BitVec 32 := Scalar.addi v550 c0_i32_256
  v551
def k0_off7 (k0_t1 : Fin k0_t1_loop.trips) (c0_i32_256 : BitVec 32) : Fin 3 → Nat :=
  let c1_267 : Index := 1#32
  let c0_i32_2 : BitVec 32 := 0#32
  let c1_i32 : BitVec 32 := 1#32
  let arg11 : BitVec 32 := Scf.iv c0_i32_2 c1_i32 k0_t1
  let c128_i32_255 : BitVec 32 := 128#32
  let v550 : BitVec 32 := Scalar.muli arg11 c128_i32_255
  let v551 : BitVec 32 := Scalar.addi v550 c0_i32_256
  let v552 : BitVec 32 := v551
  let v579 : Index := Scalar.indexCast v552
  let c0_268 : Index := 0#32
  ![1, v579.toNat, 0]
def k0_off8 (k0_t1 : Fin k0_t1_loop.trips) (c0_i32_256 : BitVec 32) : Fin 3 → Nat :=
  let c1_273 : Index := 1#32
  let c0_i32_2 : BitVec 32 := 0#32
  let c1_i32 : BitVec 32 := 1#32
  let arg11 : BitVec 32 := Scf.iv c0_i32_2 c1_i32 k0_t1
  let c128_i32_255 : BitVec 32 := 128#32
  let v550 : BitVec 32 := Scalar.muli arg11 c128_i32_255
  let v551 : BitVec 32 := Scalar.addi v550 c0_i32_256
  let v552 : BitVec 32 := v551
  let v593 : Index := Scalar.indexCast v552
  let c128_274 : Index := 128#32
  ![1, v593.toNat, 128]
def k0_mult10 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_275 : BitVec 32 := 128#32
  let v597 : BitVec 32 := Scalar.muli arg11 c128_i32_275
  let c16_i32_276 : BitVec 32 := 16#32
  let v598 : BitVec 32 := Scalar.addi v597 c16_i32_276
  v598
def k0_mult11 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_295 : BitVec 32 := 128#32
  let v644 : BitVec 32 := Scalar.muli arg11 c128_i32_295
  let c32_i32_296 : BitVec 32 := 32#32
  let v645 : BitVec 32 := Scalar.addi v644 c32_i32_296
  v645
def k0_mult12 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_315 : BitVec 32 := 128#32
  let v691 : BitVec 32 := Scalar.muli arg11 c128_i32_315
  let c48_i32_316 : BitVec 32 := 48#32
  let v692 : BitVec 32 := Scalar.addi v691 c48_i32_316
  v692
def k0_mult13 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_335 : BitVec 32 := 128#32
  let v738 : BitVec 32 := Scalar.muli arg11 c128_i32_335
  let c64_i32_336 : BitVec 32 := 64#32
  let v739 : BitVec 32 := Scalar.addi v738 c64_i32_336
  v739
def k0_mult14 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_355 : BitVec 32 := 128#32
  let v785 : BitVec 32 := Scalar.muli arg11 c128_i32_355
  let c80_i32_356 : BitVec 32 := 80#32
  let v786 : BitVec 32 := Scalar.addi v785 c80_i32_356
  v786
def k0_mult15 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_375 : BitVec 32 := 128#32
  let v832 : BitVec 32 := Scalar.muli arg11 c128_i32_375
  let c96_i32_376 : BitVec 32 := 96#32
  let v833 : BitVec 32 := Scalar.addi v832 c96_i32_376
  v833
def k0_mult16 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_395 : BitVec 32 := 128#32
  let v879 : BitVec 32 := Scalar.muli arg11 c128_i32_395
  let c112_i32_396 : BitVec 32 := 112#32
  let v880 : BitVec 32 := Scalar.addi v879 c112_i32_396
  v880
def k0_off9 (i : grid0.Coords) (c0_i32_11 : BitVec 32) : Fin 3 → Nat :=
  let c2_i32 : BitVec 32 := 2#32
  let arg1 : BitVec 32 := BitVec.ofNat 32 (i 1).val
  let v19 : BitVec 32 := Scalar.muli c2_i32 arg1
  let v20 : BitVec 32 := Scalar.addi v19 c0_i32_11
  let c4_i32 : BitVec 32 := 4#32
  let v21 : BitVec 1 := Scalar.cmpi .slt v20 c4_i32
  let c2_i32_12 : BitVec 32 := 2#32
  let v22 : BitVec 32 := Scalar.muli c2_i32_12 v20
  let c2_i32_13 : BitVec 32 := 2#32
  let v23 : BitVec 32 := Scalar.muli c2_i32_13 v20
  let c7_i32 : BitVec 32 := 7#32
  let v24 : BitVec 32 := Scalar.subi v23 c7_i32
  let v25 : BitVec 32 := Scalar.select v21 v22 v24
  let v26 : Index := Scalar.indexCast v25
  let c0_14 : Index := 0#32
  let c0_15 : Index := 0#32
  ![v26.toNat, 0, 0]
def k0_off10 (i : grid0.Coords) (c0_i32_34 : BitVec 32) : Fin 3 → Nat :=
  let c2_i32_33 : BitVec 32 := 2#32
  let arg1 : BitVec 32 := BitVec.ofNat 32 (i 1).val
  let v57 : BitVec 32 := Scalar.muli c2_i32_33 arg1
  let v58 : BitVec 32 := Scalar.addi v57 c0_i32_34
  let c4_i32_35 : BitVec 32 := 4#32
  let v59 : BitVec 1 := Scalar.cmpi .slt v58 c4_i32_35
  let c2_i32_36 : BitVec 32 := 2#32
  let v60 : BitVec 32 := Scalar.muli c2_i32_36 v58
  let c2_i32_37 : BitVec 32 := 2#32
  let v61 : BitVec 32 := Scalar.muli c2_i32_37 v58
  let c7_i32_38 : BitVec 32 := 7#32
  let v62 : BitVec 32 := Scalar.subi v61 c7_i32_38
  let v63 : BitVec 32 := Scalar.select v59 v60 v62
  let v64 : Index := Scalar.indexCast v63
  let c192 : Index := 192#32
  let c0_39 : Index := 0#32
  ![v64.toNat, 192, 0]
def k0_off11 (i : grid0.Coords) (c0_i32_58 : BitVec 32) : Fin 3 → Nat :=
  let c2_i32_57 : BitVec 32 := 2#32
  let arg1 : BitVec 32 := BitVec.ofNat 32 (i 1).val
  let v95 : BitVec 32 := Scalar.muli c2_i32_57 arg1
  let v96 : BitVec 32 := Scalar.addi v95 c0_i32_58
  let c4_i32_59 : BitVec 32 := 4#32
  let v97 : BitVec 1 := Scalar.cmpi .slt v96 c4_i32_59
  let c2_i32_60 : BitVec 32 := 2#32
  let v98 : BitVec 32 := Scalar.muli c2_i32_60 v96
  let c2_i32_61 : BitVec 32 := 2#32
  let v99 : BitVec 32 := Scalar.muli c2_i32_61 v96
  let c7_i32_62 : BitVec 32 := 7#32
  let v100 : BitVec 32 := Scalar.subi v99 c7_i32_62
  let v101 : BitVec 32 := Scalar.select v97 v98 v100
  let v102 : Index := Scalar.indexCast v101
  let c384_63 : Index := 384#32
  let c0_64 : Index := 0#32
  ![v102.toNat, 384, 0]
def k0_cond2 (i : grid0.Coords) : BitVec 1 :=
  let arg1 : BitVec 32 := BitVec.ofNat 32 (i 1).val
  let c3_i32 : BitVec 32 := 3#32
  let v119 : BitVec 1 := Scalar.cmpi .eq arg1 c3_i32
  let v120 : BitVec 32 := Scalar.extui v119
  let c0_i32_73 : BitVec 32 := 0#32
  let v121 : BitVec 1 := Scalar.cmpi .ne v120 c0_i32_73
  v121

@[reducible] def k0_t2_loop : Scf.Loop 32 :=
  let c0_i32_74 : BitVec 32 := 0#32
  let c72_i32 : BitVec 32 := 72#32
  let v122 : BitVec 32 := Scalar.addi c0_i32_74 c72_i32
  let c1_i32_75 : BitVec 32 := 1#32
  ⟨c0_i32_74, v122, c1_i32_75⟩
def k0_mult17 (k0_t2 : Fin k0_t2_loop.trips) : BitVec 32 :=
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  v123
def k0_off12 (k0_t2 : Fin k0_t2_loop.trips) : Fin 3 → Nat :=
  let c0_77 : Index := 0#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v125 : Index := Scalar.indexCast v124
  let c0_78 : Index := 0#32
  ![0, v125.toNat, 0]
def k0_off13 (k0_t2 : Fin k0_t2_loop.trips) : Fin 3 → Nat :=
  let c1_79 : Index := 1#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v128 : Index := Scalar.indexCast v124
  let c0_80 : Index := 0#32
  ![1, v128.toNat, 0]
def k0_off14 (k0_t2 : Fin k0_t2_loop.trips) : Fin 3 → Nat :=
  let c2 : Index := 2#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v131 : Index := Scalar.indexCast v124
  let c0_81 : Index := 0#32
  ![2, v131.toNat, 0]
def k0_off15 (k0_t2 : Fin k0_t2_loop.trips) : Fin 3 → Nat :=
  let c3 : Index := 3#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v134 : Index := Scalar.indexCast v124
  let c0_82 : Index := 0#32
  ![3, v134.toNat, 0]
def k0_off16 (k0_t2 : Fin k0_t2_loop.trips) : Fin 3 → Nat :=
  let c4 : Index := 4#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v137 : Index := Scalar.indexCast v124
  let c0_83 : Index := 0#32
  ![4, v137.toNat, 0]
def k0_off17 (k0_t2 : Fin k0_t2_loop.trips) : Fin 3 → Nat :=
  let c5 : Index := 5#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v140 : Index := Scalar.indexCast v124
  let c0_84 : Index := 0#32
  ![5, v140.toNat, 0]
def k0_off18 (k0_t2 : Fin k0_t2_loop.trips) : Fin 3 → Nat :=
  let c6 : Index := 6#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v143 : Index := Scalar.indexCast v124
  let c0_85 : Index := 0#32
  ![6, v143.toNat, 0]
def k0_off19 (k0_t2 : Fin k0_t2_loop.trips) : Fin 3 → Nat :=
  let c7 : Index := 7#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v146 : Index := Scalar.indexCast v124
  let c0_86 : Index := 0#32
  ![7, v146.toNat, 0]
def k0_mult18 (k0_t2 : Fin k0_t2_loop.trips) : BitVec 32 :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  v313
def k0_off20 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v316 : Index := Scalar.indexCast v314
  let c0_132 : Index := 0#32
  ![v316.toNat, 0]
def k0_off21 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v319 : Index := Scalar.indexCast v314
  let c128 : Index := 128#32
  ![v319.toNat, 128]
def k0_off22 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v322 : Index := Scalar.indexCast v314
  let c256 : Index := 256#32
  ![v322.toNat, 256]
def k0_off23 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v325 : Index := Scalar.indexCast v314
  let c384_133 : Index := 384#32
  ![v325.toNat, 384]
def k0_off24 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v328 : Index := Scalar.indexCast v314
  let c512 : Index := 512#32
  ![v328.toNat, 512]
def k0_off25 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v331 : Index := Scalar.indexCast v314
  let c640 : Index := 640#32
  ![v331.toNat, 640]
def k0_off26 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v334 : Index := Scalar.indexCast v314
  let c768_134 : Index := 768#32
  ![v334.toNat, 768]
def k0_off27 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v337 : Index := Scalar.indexCast v314
  let c896 : Index := 896#32
  ![v337.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1152x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S6144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S48x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S48x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1152x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S3x384x6144 : Shape := ⟨3, ![3, 384, 6144]⟩
abbrev S6144x2048 : Shape := ⟨2, ![6144, 2048]⟩
abbrev S48x16384 : Shape := ⟨2, ![48, 16384]⟩
abbrev S1152x6144 : Shape := ⟨2, ![1152, 6144]⟩
abbrev S1152x16384 : Shape := ⟨2, ![1152, 16384]⟩
abbrev S6144x128 : Shape := ⟨2, ![6144, 128]⟩
abbrev S48x1024 : Shape := ⟨2, ![48, 1024]⟩
abbrev S1152x1024 : Shape := ⟨2, ![1152, 1024]⟩
abbrev S2x6144x256 : Shape := ⟨3, ![2, 6144, 256]⟩
abbrev S2x8x48x128 : Shape := ⟨4, ![2, 8, 48, 128]⟩
abbrev S2x8x48x2x128 : Shape := ⟨5, ![2, 8, 48, 2, 128]⟩
abbrev S2x8x48x1x128 : Shape := ⟨5, ![2, 8, 48, 1, 128]⟩
abbrev S8x576x128 : Shape := ⟨3, ![8, 576, 128]⟩
abbrev S8x576x2x128 : Shape := ⟨4, ![8, 576, 2, 128]⟩
abbrev S8x576x1x128 : Shape := ⟨4, ![8, 576, 1, 128]⟩
abbrev S8x128 : Shape := ⟨2, ![8, 128]⟩
abbrev S16x128 : Shape := ⟨2, ![16, 128]⟩
abbrev S16x128x1 : Shape := ⟨3, ![16, 128, 1]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S1x128 : Shape := ⟨2, ![1, 128]⟩
abbrev S1x16x128 : Shape := ⟨3, ![1, 16, 128]⟩
abbrev S384x6144 : Shape := ⟨2, ![384, 6144]⟩
abbrev S1x6144x256 : Shape := ⟨3, ![1, 6144, 256]⟩
abbrev S6144x256 : Shape := ⟨2, ![6144, 256]⟩
abbrev S384x256 : Shape := ⟨2, ![384, 256]⟩
abbrev S384x128 : Shape := ⟨2, ![384, 128]⟩
abbrev S192x128 : Shape := ⟨2, ![192, 128]⟩
abbrev S1x192x128 : Shape := ⟨3, ![1, 192, 128]⟩
abbrev S1x192x2x128 : Shape := ⟨4, ![1, 192, 2, 128]⟩
abbrev S1x192x1x128 : Shape := ⟨4, ![1, 192, 1, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩

abbrev nBuf : Space → Nat
  | .hbm => 7
  | .vmem => 14
  | .smem => 0
  | _ => 0

abbrev bufTy : (tb : Table) → Fin (tcTables nBuf tb) → BufTy
  | .hbm, ⟨0, _⟩ => ⟨S3x384x6144, .bf16⟩
  | .hbm, ⟨1, _⟩ => ⟨S6144x2048, .i32⟩
  | .hbm, ⟨2, _⟩ => ⟨S48x16384, .bf16⟩
  | .hbm, ⟨3, _⟩ => ⟨S6144x2048, .i32⟩
  | .hbm, ⟨4, _⟩ => ⟨S48x16384, .bf16⟩
  | .hbm, ⟨5, _⟩ => ⟨S1152x6144, .bf16⟩
  | .hbm, ⟨6, _⟩ => ⟨S1152x16384, .bf16⟩
  | .local _ .vmem, ⟨0, _⟩ => ⟨S1152x6144, .bf16⟩
  | .local _ .vmem, ⟨1, _⟩ => ⟨S6144x128, .i32⟩
  | .local _ .vmem, ⟨2, _⟩ => ⟨S6144x128, .i32⟩
  | .local _ .vmem, ⟨3, _⟩ => ⟨S48x1024, .bf16⟩
  | .local _ .vmem, ⟨4, _⟩ => ⟨S48x1024, .bf16⟩
  | .local _ .vmem, ⟨5, _⟩ => ⟨S6144x128, .i32⟩
  | .local _ .vmem, ⟨6, _⟩ => ⟨S6144x128, .i32⟩
  | .local _ .vmem, ⟨7, _⟩ => ⟨S48x1024, .bf16⟩
  | .local _ .vmem, ⟨8, _⟩ => ⟨S48x1024, .bf16⟩
  | .local _ .vmem, ⟨9, _⟩ => ⟨S1152x1024, .bf16⟩
  | .local _ .vmem, ⟨10, _⟩ => ⟨S1152x1024, .bf16⟩
  | .local _ .vmem, ⟨11, _⟩ => ⟨S2x6144x256, .bf16⟩
  | .local _ .vmem, ⟨12, _⟩ => ⟨S2x8x48x2x128, .bf16⟩
  | .local _ .vmem, ⟨13, _⟩ => ⟨S8x576x2x128, .bf16⟩
  | _, _ => ⟨S3x384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_2 : BitVec 32 := 0#32
  let c48_i32 : BitVec 32 := 48#32
  let v4 : BitVec 32 := Scalar.addi c0_i32_2 c48_i32
  let c1_i32 : BitVec 32 := 1#32
  ⟨c0_i32_2, v4, c1_i32⟩
def k0_off1 (i : grid0.Coords) (k0_t1 : Fin k0_t1_loop.trips) (c0_i32_75 : BitVec 32) : Fin 5 → Nat :=
  let c0_80 : Index := 0#32
  let c2_i32_74 : BitVec 32 := 2#32
  let arg1 : BitVec 32 := BitVec.ofNat 32 (i 1).val
  let v122 : BitVec 32 := Scalar.muli c2_i32_74 arg1
  let v123 : BitVec 32 := Scalar.addi v122 c0_i32_75
  let c4_i32_76 : BitVec 32 := 4#32
  let v124 : BitVec 1 := Scalar.cmpi .slt v123 c4_i32_76
  let c2_i32_77 : BitVec 32 := 2#32
  let v125 : BitVec 32 := Scalar.muli c2_i32_77 v123
  let c2_i32_78 : BitVec 32 := 2#32
  let v126 : BitVec 32 := Scalar.muli c2_i32_78 v123
  let c7_i32_79 : BitVec 32 := 7#32
  let v127 : BitVec 32 := Scalar.subi v126 c7_i32_79
  let v128 : BitVec 32 := Scalar.select v124 v125 v127
  let v129 : Index := Scalar.indexCast v128
  let c0_i32_2 : BitVec 32 := 0#32
  let c1_i32 : BitVec 32 := 1#32
  let arg11 : BitVec 32 := Scf.iv c0_i32_2 c1_i32 k0_t1
  let v130 : Index := Scalar.indexCast arg11
  let c0_81 : Index := 0#32
  ![0, v129.toNat, v130.toNat, 0, 0]
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let c0_i32_90 : BitVec 32 := 0#32
  let v149 : BitVec 32 := Scalar.addi v148 c0_i32_90
  v149
def k0_off2 (k0_t1 : Fin k0_t1_loop.trips) (c0_i32_90 : BitVec 32) : Fin 2 → Nat :=
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let v151 : Index := Scalar.indexCast v150
  let c0_91 : Index := 0#32
  ![v151.toNat, 0]
def k0_off3 (k0_t1 : Fin k0_t1_loop.trips) (c0_i32_90 : BitVec 32) : Fin 2 → Nat :=
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let c1_i32_92 : BitVec 32 := 1#32
  let v156 : BitVec 32 := Scalar.addi v150 c1_i32_92
  let v157 : Index := Scalar.indexCast v156
  let c0_93 : Index := 0#32
  ![v157.toNat, 0]
def k0_off4 (k0_t1 : Fin k0_t1_loop.trips) (c0_i32_90 : BitVec 32) : Fin 3 → Nat :=
  let c0_97 : Index := 0#32
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let v177 : Index := Scalar.indexCast v150
  let c0_98 : Index := 0#32
  ![0, v177.toNat, 0]
def k0_off5 (k0_t1 : Fin k0_t1_loop.trips) (c0_i32_90 : BitVec 32) : Fin 3 → Nat :=
  let c0_103 : Index := 0#32
  let c0_i32_2 : BitVec 32 := 0#32
  let c1_i32 : BitVec 32 := 1#32
  let arg11 : BitVec 32 := Scf.iv c0_i32_2 c1_i32 k0_t1
  let c128_i32 : BitVec 32 := 128#32
  let v148 : BitVec 32 := Scalar.muli arg11 c128_i32
  let v149 : BitVec 32 := Scalar.addi v148 c0_i32_90
  let v150 : BitVec 32 := v149
  let v191 : Index := Scalar.indexCast v150
  let c128 : Index := 128#32
  ![0, v191.toNat, 128]
def k0_mult2 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_104 : BitVec 32 := 128#32
  let v195 : BitVec 32 := Scalar.muli arg11 c128_i32_104
  let c16_i32_105 : BitVec 32 := 16#32
  let v196 : BitVec 32 := Scalar.addi v195 c16_i32_105
  v196
def k0_mult3 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_124 : BitVec 32 := 128#32
  let v242 : BitVec 32 := Scalar.muli arg11 c128_i32_124
  let c32_i32 : BitVec 32 := 32#32
  let v243 : BitVec 32 := Scalar.addi v242 c32_i32
  v243
def k0_mult4 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_143 : BitVec 32 := 128#32
  let v289 : BitVec 32 := Scalar.muli arg11 c128_i32_143
  let c48_i32_144 : BitVec 32 := 48#32
  let v290 : BitVec 32 := Scalar.addi v289 c48_i32_144
  v290
def k0_mult5 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_163 : BitVec 32 := 128#32
  let v336 : BitVec 32 := Scalar.muli arg11 c128_i32_163
  let c64_i32 : BitVec 32 := 64#32
  let v337 : BitVec 32 := Scalar.addi v336 c64_i32
  v337
def k0_mult6 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_182 : BitVec 32 := 128#32
  let v383 : BitVec 32 := Scalar.muli arg11 c128_i32_182
  let c80_i32 : BitVec 32 := 80#32
  let v384 : BitVec 32 := Scalar.addi v383 c80_i32
  v384
def k0_mult7 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_201 : BitVec 32 := 128#32
  let v430 : BitVec 32 := Scalar.muli arg11 c128_i32_201
  let c96_i32 : BitVec 32 := 96#32
  let v431 : BitVec 32 := Scalar.addi v430 c96_i32
  v431
def k0_mult8 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_220 : BitVec 32 := 128#32
  let v477 : BitVec 32 := Scalar.muli arg11 c128_i32_220
  let c112_i32 : BitVec 32 := 112#32
  let v478 : BitVec 32 := Scalar.addi v477 c112_i32
  v478
def k0_off6 (i : grid0.Coords) (k0_t1 : Fin k0_t1_loop.trips) (c0_i32_240 : BitVec 32) : Fin 5 → Nat :=
  let c1_245 : Index := 1#32
  let c2_i32_239 : BitVec 32 := 2#32
  let arg1 : BitVec 32 := BitVec.ofNat 32 (i 1).val
  let v524 : BitVec 32 := Scalar.muli c2_i32_239 arg1
  let v525 : BitVec 32 := Scalar.addi v524 c0_i32_240
  let c4_i32_241 : BitVec 32 := 4#32
  let v526 : BitVec 1 := Scalar.cmpi .slt v525 c4_i32_241
  let c2_i32_242 : BitVec 32 := 2#32
  let v527 : BitVec 32 := Scalar.muli c2_i32_242 v525
  let c2_i32_243 : BitVec 32 := 2#32
  let v528 : BitVec 32 := Scalar.muli c2_i32_243 v525
  let c7_i32_244 : BitVec 32 := 7#32
  let v529 : BitVec 32 := Scalar.subi v528 c7_i32_244
  let v530 : BitVec 32 := Scalar.select v526 v527 v529
  let v531 : Index := Scalar.indexCast v530
  let c0_i32_2 : BitVec 32 := 0#32
  let c1_i32 : BitVec 32 := 1#32
  let arg11 : BitVec 32 := Scf.iv c0_i32_2 c1_i32 k0_t1
  let v532 : Index := Scalar.indexCast arg11
  let c0_246 : Index := 0#32
  ![1, v531.toNat, v532.toNat, 0, 0]
def k0_mult9 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_255 : BitVec 32 := 128#32
  let v550 : BitVec 32 := Scalar.muli arg11 c128_i32_255
  let c0_i32_256 : BitVec 32 := 0#32
  let v551 : BitVec 32 := Scalar.addi v550 c0_i32_256
  v551
def k0_off7 (k0_t1 : Fin k0_t1_loop.trips) (c0_i32_256 : BitVec 32) : Fin 3 → Nat :=
  let c1_267 : Index := 1#32
  let c0_i32_2 : BitVec 32 := 0#32
  let c1_i32 : BitVec 32 := 1#32
  let arg11 : BitVec 32 := Scf.iv c0_i32_2 c1_i32 k0_t1
  let c128_i32_255 : BitVec 32 := 128#32
  let v550 : BitVec 32 := Scalar.muli arg11 c128_i32_255
  let v551 : BitVec 32 := Scalar.addi v550 c0_i32_256
  let v552 : BitVec 32 := v551
  let v579 : Index := Scalar.indexCast v552
  let c0_268 : Index := 0#32
  ![1, v579.toNat, 0]
def k0_off8 (k0_t1 : Fin k0_t1_loop.trips) (c0_i32_256 : BitVec 32) : Fin 3 → Nat :=
  let c1_273 : Index := 1#32
  let c0_i32_2 : BitVec 32 := 0#32
  let c1_i32 : BitVec 32 := 1#32
  let arg11 : BitVec 32 := Scf.iv c0_i32_2 c1_i32 k0_t1
  let c128_i32_255 : BitVec 32 := 128#32
  let v550 : BitVec 32 := Scalar.muli arg11 c128_i32_255
  let v551 : BitVec 32 := Scalar.addi v550 c0_i32_256
  let v552 : BitVec 32 := v551
  let v593 : Index := Scalar.indexCast v552
  let c128_274 : Index := 128#32
  ![1, v593.toNat, 128]
def k0_mult10 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_275 : BitVec 32 := 128#32
  let v597 : BitVec 32 := Scalar.muli arg11 c128_i32_275
  let c16_i32_276 : BitVec 32 := 16#32
  let v598 : BitVec 32 := Scalar.addi v597 c16_i32_276
  v598
def k0_mult11 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_295 : BitVec 32 := 128#32
  let v644 : BitVec 32 := Scalar.muli arg11 c128_i32_295
  let c32_i32_296 : BitVec 32 := 32#32
  let v645 : BitVec 32 := Scalar.addi v644 c32_i32_296
  v645
def k0_mult12 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_315 : BitVec 32 := 128#32
  let v691 : BitVec 32 := Scalar.muli arg11 c128_i32_315
  let c48_i32_316 : BitVec 32 := 48#32
  let v692 : BitVec 32 := Scalar.addi v691 c48_i32_316
  v692
def k0_mult13 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_335 : BitVec 32 := 128#32
  let v738 : BitVec 32 := Scalar.muli arg11 c128_i32_335
  let c64_i32_336 : BitVec 32 := 64#32
  let v739 : BitVec 32 := Scalar.addi v738 c64_i32_336
  v739
def k0_mult14 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_355 : BitVec 32 := 128#32
  let v785 : BitVec 32 := Scalar.muli arg11 c128_i32_355
  let c80_i32_356 : BitVec 32 := 80#32
  let v786 : BitVec 32 := Scalar.addi v785 c80_i32_356
  v786
def k0_mult15 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_375 : BitVec 32 := 128#32
  let v832 : BitVec 32 := Scalar.muli arg11 c128_i32_375
  let c96_i32_376 : BitVec 32 := 96#32
  let v833 : BitVec 32 := Scalar.addi v832 c96_i32_376
  v833
def k0_mult16 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c128_i32_395 : BitVec 32 := 128#32
  let v879 : BitVec 32 := Scalar.muli arg11 c128_i32_395
  let c112_i32_396 : BitVec 32 := 112#32
  let v880 : BitVec 32 := Scalar.addi v879 c112_i32_396
  v880
def k0_off9 (i : grid0.Coords) (c0_i32_11 : BitVec 32) : Fin 4 → Nat :=
  let c2_i32 : BitVec 32 := 2#32
  let arg1 : BitVec 32 := BitVec.ofNat 32 (i 1).val
  let v19 : BitVec 32 := Scalar.muli c2_i32 arg1
  let v20 : BitVec 32 := Scalar.addi v19 c0_i32_11
  let c4_i32 : BitVec 32 := 4#32
  let v21 : BitVec 1 := Scalar.cmpi .slt v20 c4_i32
  let c2_i32_12 : BitVec 32 := 2#32
  let v22 : BitVec 32 := Scalar.muli c2_i32_12 v20
  let c2_i32_13 : BitVec 32 := 2#32
  let v23 : BitVec 32 := Scalar.muli c2_i32_13 v20
  let c7_i32 : BitVec 32 := 7#32
  let v24 : BitVec 32 := Scalar.subi v23 c7_i32
  let v25 : BitVec 32 := Scalar.select v21 v22 v24
  let v26 : Index := Scalar.indexCast v25
  let c0_14 : Index := 0#32
  let c0_15 : Index := 0#32
  ![v26.toNat, 0, 0, 0]
def k0_off10 (i : grid0.Coords) (c0_i32_34 : BitVec 32) : Fin 4 → Nat :=
  let c2_i32_33 : BitVec 32 := 2#32
  let arg1 : BitVec 32 := BitVec.ofNat 32 (i 1).val
  let v57 : BitVec 32 := Scalar.muli c2_i32_33 arg1
  let v58 : BitVec 32 := Scalar.addi v57 c0_i32_34
  let c4_i32_35 : BitVec 32 := 4#32
  let v59 : BitVec 1 := Scalar.cmpi .slt v58 c4_i32_35
  let c2_i32_36 : BitVec 32 := 2#32
  let v60 : BitVec 32 := Scalar.muli c2_i32_36 v58
  let c2_i32_37 : BitVec 32 := 2#32
  let v61 : BitVec 32 := Scalar.muli c2_i32_37 v58
  let c7_i32_38 : BitVec 32 := 7#32
  let v62 : BitVec 32 := Scalar.subi v61 c7_i32_38
  let v63 : BitVec 32 := Scalar.select v59 v60 v62
  let v64 : Index := Scalar.indexCast v63
  let c192 : Index := 192#32
  let c0_39 : Index := 0#32
  ![v64.toNat, 192, 0, 0]
def k0_off11 (i : grid0.Coords) (c0_i32_58 : BitVec 32) : Fin 4 → Nat :=
  let c2_i32_57 : BitVec 32 := 2#32
  let arg1 : BitVec 32 := BitVec.ofNat 32 (i 1).val
  let v95 : BitVec 32 := Scalar.muli c2_i32_57 arg1
  let v96 : BitVec 32 := Scalar.addi v95 c0_i32_58
  let c4_i32_59 : BitVec 32 := 4#32
  let v97 : BitVec 1 := Scalar.cmpi .slt v96 c4_i32_59
  let c2_i32_60 : BitVec 32 := 2#32
  let v98 : BitVec 32 := Scalar.muli c2_i32_60 v96
  let c2_i32_61 : BitVec 32 := 2#32
  let v99 : BitVec 32 := Scalar.muli c2_i32_61 v96
  let c7_i32_62 : BitVec 32 := 7#32
  let v100 : BitVec 32 := Scalar.subi v99 c7_i32_62
  let v101 : BitVec 32 := Scalar.select v97 v98 v100
  let v102 : Index := Scalar.indexCast v101
  let c384_63 : Index := 384#32
  let c0_64 : Index := 0#32
  ![v102.toNat, 384, 0, 0]
def k0_cond2 (i : grid0.Coords) : BitVec 1 :=
  let arg1 : BitVec 32 := BitVec.ofNat 32 (i 1).val
  let c3_i32 : BitVec 32 := 3#32
  let v119 : BitVec 1 := Scalar.cmpi .eq arg1 c3_i32
  let v120 : BitVec 32 := Scalar.extui v119
  let c0_i32_73 : BitVec 32 := 0#32
  let v121 : BitVec 1 := Scalar.cmpi .ne v120 c0_i32_73
  v121

@[reducible] def k0_t2_loop : Scf.Loop 32 :=
  let c0_i32_74 : BitVec 32 := 0#32
  let c72_i32 : BitVec 32 := 72#32
  let v122 : BitVec 32 := Scalar.addi c0_i32_74 c72_i32
  let c1_i32_75 : BitVec 32 := 1#32
  ⟨c0_i32_74, v122, c1_i32_75⟩
def k0_mult17 (k0_t2 : Fin k0_t2_loop.trips) : BitVec 32 :=
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  v123
def k0_off12 (k0_t2 : Fin k0_t2_loop.trips) : Fin 4 → Nat :=
  let c0_77 : Index := 0#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v125 : Index := Scalar.indexCast v124
  let c0_78 : Index := 0#32
  ![0, v125.toNat, 0, 0]
def k0_off13 (k0_t2 : Fin k0_t2_loop.trips) : Fin 4 → Nat :=
  let c1_79 : Index := 1#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v128 : Index := Scalar.indexCast v124
  let c0_80 : Index := 0#32
  ![1, v128.toNat, 0, 0]
def k0_off14 (k0_t2 : Fin k0_t2_loop.trips) : Fin 4 → Nat :=
  let c2 : Index := 2#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v131 : Index := Scalar.indexCast v124
  let c0_81 : Index := 0#32
  ![2, v131.toNat, 0, 0]
def k0_off15 (k0_t2 : Fin k0_t2_loop.trips) : Fin 4 → Nat :=
  let c3 : Index := 3#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v134 : Index := Scalar.indexCast v124
  let c0_82 : Index := 0#32
  ![3, v134.toNat, 0, 0]
def k0_off16 (k0_t2 : Fin k0_t2_loop.trips) : Fin 4 → Nat :=
  let c4 : Index := 4#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v137 : Index := Scalar.indexCast v124
  let c0_83 : Index := 0#32
  ![4, v137.toNat, 0, 0]
def k0_off17 (k0_t2 : Fin k0_t2_loop.trips) : Fin 4 → Nat :=
  let c5 : Index := 5#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v140 : Index := Scalar.indexCast v124
  let c0_84 : Index := 0#32
  ![5, v140.toNat, 0, 0]
def k0_off18 (k0_t2 : Fin k0_t2_loop.trips) : Fin 4 → Nat :=
  let c6 : Index := 6#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v143 : Index := Scalar.indexCast v124
  let c0_85 : Index := 0#32
  ![6, v143.toNat, 0, 0]
def k0_off19 (k0_t2 : Fin k0_t2_loop.trips) : Fin 4 → Nat :=
  let c7 : Index := 7#32
  let c0_i32_74 : BitVec 32 := 0#32
  let c1_i32_75 : BitVec 32 := 1#32
  let arg11 : BitVec 32 := Scf.iv c0_i32_74 c1_i32_75 k0_t2
  let c8_i32 : BitVec 32 := 8#32
  let v123 : BitVec 32 := Scalar.muli arg11 c8_i32
  let v124 : BitVec 32 := v123
  let v146 : Index := Scalar.indexCast v124
  let c0_86 : Index := 0#32
  ![7, v146.toNat, 0, 0]
def k0_mult18 (k0_t2 : Fin k0_t2_loop.trips) : BitVec 32 :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  v313
def k0_off20 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v316 : Index := Scalar.indexCast v314
  let c0_132 : Index := 0#32
  ![v316.toNat, 0]
def k0_off21 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v319 : Index := Scalar.indexCast v314
  let c128 : Index := 128#32
  ![v319.toNat, 128]
def k0_off22 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v322 : Index := Scalar.indexCast v314
  let c256 : Index := 256#32
  ![v322.toNat, 256]
def k0_off23 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v325 : Index := Scalar.indexCast v314
  let c384_133 : Index := 384#32
  ![v325.toNat, 384]
def k0_off24 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v328 : Index := Scalar.indexCast v314
  let c512 : Index := 512#32
  ![v328.toNat, 512]
def k0_off25 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v331 : Index := Scalar.indexCast v314
  let c640 : Index := 640#32
  ![v331.toNat, 640]
def k0_off26 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v334 : Index := Scalar.indexCast v314
  let c768_134 : Index := 768#32
  ![v334.toNat, 768]
def k0_off27 (k0_t2 : Fin k0_t2_loop.trips) : Fin 2 → Nat :=
  let c0_i32_74 : BitVec 32 := 0#32
  let c1_i32_75 : BitVec 32 := 1#32
  let arg11 : BitVec 32 := Scf.iv c0_i32_74 c1_i32_75 k0_t2
  let c16_i32 : BitVec 32 := 16#32
  let v313 : BitVec 32 := Scalar.muli arg11 c16_i32
  let v314 : BitVec 32 := v313
  let v337 : Index := Scalar.indexCast v314
  let c896 : Index := 896#32
  ![v337.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1152x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S6144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S48x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S48x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1152x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3x384x6144 : Shape := ⟨3, ![3, 384, 6144]⟩
abbrev S6144x2048 : Shape := ⟨2, ![6144, 2048]⟩
abbrev S48x16384 : Shape := ⟨2, ![48, 16384]⟩
abbrev S_ : Shape := ⟨0, ![]⟩
abbrev S48x2048 : Shape := ⟨2, ![48, 2048]⟩
abbrev S48x128x2048 : Shape := ⟨3, ![48, 128, 2048]⟩
abbrev S3x384x2048 : Shape := ⟨3, ![3, 384, 2048]⟩
abbrev S3x384x2048x1 : Shape := ⟨4, ![3, 384, 2048, 1]⟩
abbrev S3x384x2048x8 : Shape := ⟨4, ![3, 384, 2048, 8]⟩
abbrev S3x384x16384 : Shape := ⟨3, ![3, 384, 16384]⟩
abbrev S1152x16384 : Shape := ⟨2, ![1152, 16384]⟩

abbrev nBuf : Space → Nat
  | .hbm => 277
  | .vmem => 0
  | .smem => 0
  | _ => 0

abbrev hbmTy0_0 (i : Nat) : BufTy := match i % 128 with
  | 0 => ⟨S3x384x6144, .bf16⟩
  | 1 => ⟨S6144x2048, .i32⟩
  | 2 => ⟨S48x16384, .bf16⟩
  | 3 => ⟨S6144x2048, .i32⟩
  | 4 => ⟨S48x16384, .bf16⟩
  | 5 => ⟨S_, .i32⟩
  | 6 => ⟨S6144x2048, .i32⟩
  | 7 => ⟨S6144x2048, .i32⟩
  | 8 => ⟨S_, .i32⟩
  | 9 => ⟨S6144x2048, .i32⟩
  | 10 => ⟨S6144x2048, .i32⟩
  | 11 => ⟨S6144x2048, .bf16⟩
  | 12 => ⟨S_, .bf16⟩
  | 13 => ⟨S6144x2048, .bf16⟩
  | 14 => ⟨S6144x2048, .bf16⟩
  | 15 => ⟨S48x2048, .bf16⟩
  | 16 => ⟨S48x128x2048, .bf16⟩
  | 17 => ⟨S6144x2048, .bf16⟩
  | 18 => ⟨S6144x2048, .bf16⟩
  | 19 => ⟨S3x384x2048, .f32⟩
  | 20 => ⟨S_, .i32⟩
  | 21 => ⟨S6144x2048, .i32⟩
  | 22 => ⟨S6144x2048, .i32⟩
  | 23 => ⟨S_, .i32⟩
  | 24 => ⟨S6144x2048, .i32⟩
  | 25 => ⟨S6144x2048, .i32⟩
  | 26 => ⟨S6144x2048, .bf16⟩
  | 27 => ⟨S_, .bf16⟩
  | 28 => ⟨S6144x2048, .bf16⟩
  | 29 => ⟨S6144x2048, .bf16⟩
  | 30 => ⟨S48x2048, .bf16⟩
  | 31 => ⟨S48x128x2048, .bf16⟩
  | 32 => ⟨S6144x2048, .bf16⟩
  | 33 => ⟨S6144x2048, .bf16⟩
  | 34 => ⟨S3x384x2048, .f32⟩
  | 35 => ⟨S_, .i32⟩
  | 36 => ⟨S6144x2048, .i32⟩
  | 37 => ⟨S6144x2048, .i32⟩
  | 38 => ⟨S_, .i32⟩
  | 39 => ⟨S6144x2048, .i32⟩
  | 40 => ⟨S6144x2048, .i32⟩
  | 41 => ⟨S6144x2048, .bf16⟩
  | 42 => ⟨S_, .bf16⟩
  | 43 => ⟨S6144x2048, .bf16⟩
  | 44 => ⟨S6144x2048, .bf16⟩
  | 45 => ⟨S48x2048, .bf16⟩
  | 46 => ⟨S48x128x2048, .bf16⟩
  | 47 => ⟨S6144x2048, .bf16⟩
  | 48 => ⟨S6144x2048, .bf16⟩
  | 49 => ⟨S3x384x2048, .f32⟩
  | 50 => ⟨S_, .i32⟩
  | 51 => ⟨S6144x2048, .i32⟩
  | 52 => ⟨S6144x2048, .i32⟩
  | 53 => ⟨S_, .i32⟩
  | 54 => ⟨S6144x2048, .i32⟩
  | 55 => ⟨S6144x2048, .i32⟩
  | 56 => ⟨S6144x2048, .bf16⟩
  | 57 => ⟨S_, .bf16⟩
  | 58 => ⟨S6144x2048, .bf16⟩
  | 59 => ⟨S6144x2048, .bf16⟩
  | 60 => ⟨S48x2048, .bf16⟩
  | 61 => ⟨S48x128x2048, .bf16⟩
  | 62 => ⟨S6144x2048, .bf16⟩
  | 63 => ⟨S6144x2048, .bf16⟩
  | 64 => ⟨S3x384x2048, .f32⟩
  | 65 => ⟨S_, .i32⟩
  | 66 => ⟨S6144x2048, .i32⟩
  | 67 => ⟨S6144x2048, .i32⟩
  | 68 => ⟨S_, .i32⟩
  | 69 => ⟨S6144x2048, .i32⟩
  | 70 => ⟨S6144x2048, .i32⟩
  | 71 => ⟨S6144x2048, .bf16⟩
  | 72 => ⟨S_, .bf16⟩
  | 73 => ⟨S6144x2048, .bf16⟩
  | 74 => ⟨S6144x2048, .bf16⟩
  | 75 => ⟨S48x2048, .bf16⟩
  | 76 => ⟨S48x128x2048, .bf16⟩
  | 77 => ⟨S6144x2048, .bf16⟩
  | 78 => ⟨S6144x2048, .bf16⟩
  | 79 => ⟨S3x384x2048, .f32⟩
  | 80 => ⟨S_, .i32⟩
  | 81 => ⟨S6144x2048, .i32⟩
  | 82 => ⟨S6144x2048, .i32⟩
  | 83 => ⟨S_, .i32⟩
  | 84 => ⟨S6144x2048, .i32⟩
  | 85 => ⟨S6144x2048, .i32⟩
  | 86 => ⟨S6144x2048, .bf16⟩
  | 87 => ⟨S_, .bf16⟩
  | 88 => ⟨S6144x2048, .bf16⟩
  | 89 => ⟨S6144x2048, .bf16⟩
  | 90 => ⟨S48x2048, .bf16⟩
  | 91 => ⟨S48x128x2048, .bf16⟩
  | 92 => ⟨S6144x2048, .bf16⟩
  | 93 => ⟨S6144x2048, .bf16⟩
  | 94 => ⟨S3x384x2048, .f32⟩
  | 95 => ⟨S_, .i32⟩
  | 96 => ⟨S6144x2048, .i32⟩
  | 97 => ⟨S6144x2048, .i32⟩
  | 98 => ⟨S_, .i32⟩
  | 99 => ⟨S6144x2048, .i32⟩
  | 100 => ⟨S6144x2048, .i32⟩
  | 101 => ⟨S6144x2048, .bf16⟩
  | 102 => ⟨S_, .bf16⟩
  | 103 => ⟨S6144x2048, .bf16⟩
  | 104 => ⟨S6144x2048, .bf16⟩
  | 105 => ⟨S48x2048, .bf16⟩
  | 106 => ⟨S48x128x2048, .bf16⟩
  | 107 => ⟨S6144x2048, .bf16⟩
  | 108 => ⟨S6144x2048, .bf16⟩
  | 109 => ⟨S3x384x2048, .f32⟩
  | 110 => ⟨S_, .i32⟩
  | 111 => ⟨S6144x2048, .i32⟩
  | 112 => ⟨S6144x2048, .i32⟩
  | 113 => ⟨S_, .i32⟩
  | 114 => ⟨S6144x2048, .i32⟩
  | 115 => ⟨S6144x2048, .i32⟩
  | 116 => ⟨S6144x2048, .bf16⟩
  | 117 => ⟨S_, .bf16⟩
  | 118 => ⟨S6144x2048, .bf16⟩
  | 119 => ⟨S6144x2048, .bf16⟩
  | 120 => ⟨S48x2048, .bf16⟩
  | 121 => ⟨S48x128x2048, .bf16⟩
  | 122 => ⟨S6144x2048, .bf16⟩
  | 123 => ⟨S6144x2048, .bf16⟩
  | 124 => ⟨S3x384x2048, .f32⟩
  | 125 => ⟨S3x384x2048x1, .f32⟩
  | 126 => ⟨S3x384x2048x1, .f32⟩
  | 127 => ⟨S3x384x2048x1, .f32⟩
  | _ => ⟨S3x384x6144, .bf16⟩

abbrev hbmTy0_1 (i : Nat) : BufTy := match i % 128 with
  | 0 => ⟨S3x384x2048x1, .f32⟩
  | 1 => ⟨S3x384x2048x1, .f32⟩
  | 2 => ⟨S3x384x2048x1, .f32⟩
  | 3 => ⟨S3x384x2048x1, .f32⟩
  | 4 => ⟨S3x384x2048x1, .f32⟩
  | 5 => ⟨S3x384x2048x8, .f32⟩
  | 6 => ⟨S3x384x16384, .f32⟩
  | 7 => ⟨S_, .i32⟩
  | 8 => ⟨S6144x2048, .i32⟩
  | 9 => ⟨S6144x2048, .i32⟩
  | 10 => ⟨S_, .i32⟩
  | 11 => ⟨S6144x2048, .i32⟩
  | 12 => ⟨S6144x2048, .i32⟩
  | 13 => ⟨S6144x2048, .bf16⟩
  | 14 => ⟨S_, .bf16⟩
  | 15 => ⟨S6144x2048, .bf16⟩
  | 16 => ⟨S6144x2048, .bf16⟩
  | 17 => ⟨S48x2048, .bf16⟩
  | 18 => ⟨S48x128x2048, .bf16⟩
  | 19 => ⟨S6144x2048, .bf16⟩
  | 20 => ⟨S6144x2048, .bf16⟩
  | 21 => ⟨S3x384x2048, .f32⟩
  | 22 => ⟨S_, .i32⟩
  | 23 => ⟨S6144x2048, .i32⟩
  | 24 => ⟨S6144x2048, .i32⟩
  | 25 => ⟨S_, .i32⟩
  | 26 => ⟨S6144x2048, .i32⟩
  | 27 => ⟨S6144x2048, .i32⟩
  | 28 => ⟨S6144x2048, .bf16⟩
  | 29 => ⟨S_, .bf16⟩
  | 30 => ⟨S6144x2048, .bf16⟩
  | 31 => ⟨S6144x2048, .bf16⟩
  | 32 => ⟨S48x2048, .bf16⟩
  | 33 => ⟨S48x128x2048, .bf16⟩
  | 34 => ⟨S6144x2048, .bf16⟩
  | 35 => ⟨S6144x2048, .bf16⟩
  | 36 => ⟨S3x384x2048, .f32⟩
  | 37 => ⟨S_, .i32⟩
  | 38 => ⟨S6144x2048, .i32⟩
  | 39 => ⟨S6144x2048, .i32⟩
  | 40 => ⟨S_, .i32⟩
  | 41 => ⟨S6144x2048, .i32⟩
  | 42 => ⟨S6144x2048, .i32⟩
  | 43 => ⟨S6144x2048, .bf16⟩
  | 44 => ⟨S_, .bf16⟩
  | 45 => ⟨S6144x2048, .bf16⟩
  | 46 => ⟨S6144x2048, .bf16⟩
  | 47 => ⟨S48x2048, .bf16⟩
  | 48 => ⟨S48x128x2048, .bf16⟩
  | 49 => ⟨S6144x2048, .bf16⟩
  | 50 => ⟨S6144x2048, .bf16⟩
  | 51 => ⟨S3x384x2048, .f32⟩
  | 52 => ⟨S_, .i32⟩
  | 53 => ⟨S6144x2048, .i32⟩
  | 54 => ⟨S6144x2048, .i32⟩
  | 55 => ⟨S_, .i32⟩
  | 56 => ⟨S6144x2048, .i32⟩
  | 57 => ⟨S6144x2048, .i32⟩
  | 58 => ⟨S6144x2048, .bf16⟩
  | 59 => ⟨S_, .bf16⟩
  | 60 => ⟨S6144x2048, .bf16⟩
  | 61 => ⟨S6144x2048, .bf16⟩
  | 62 => ⟨S48x2048, .bf16⟩
  | 63 => ⟨S48x128x2048, .bf16⟩
  | 64 => ⟨S6144x2048, .bf16⟩
  | 65 => ⟨S6144x2048, .bf16⟩
  | 66 => ⟨S3x384x2048, .f32⟩
  | 67 => ⟨S_, .i32⟩
  | 68 => ⟨S6144x2048, .i32⟩
  | 69 => ⟨S6144x2048, .i32⟩
  | 70 => ⟨S_, .i32⟩
  | 71 => ⟨S6144x2048, .i32⟩
  | 72 => ⟨S6144x2048, .i32⟩
  | 73 => ⟨S6144x2048, .bf16⟩
  | 74 => ⟨S_, .bf16⟩
  | 75 => ⟨S6144x2048, .bf16⟩
  | 76 => ⟨S6144x2048, .bf16⟩
  | 77 => ⟨S48x2048, .bf16⟩
  | 78 => ⟨S48x128x2048, .bf16⟩
  | 79 => ⟨S6144x2048, .bf16⟩
  | 80 => ⟨S6144x2048, .bf16⟩
  | 81 => ⟨S3x384x2048, .f32⟩
  | 82 => ⟨S_, .i32⟩
  | 83 => ⟨S6144x2048, .i32⟩
  | 84 => ⟨S6144x2048, .i32⟩
  | 85 => ⟨S_, .i32⟩
  | 86 => ⟨S6144x2048, .i32⟩
  | 87 => ⟨S6144x2048, .i32⟩
  | 88 => ⟨S6144x2048, .bf16⟩
  | 89 => ⟨S_, .bf16⟩
  | 90 => ⟨S6144x2048, .bf16⟩
  | 91 => ⟨S6144x2048, .bf16⟩
  | 92 => ⟨S48x2048, .bf16⟩
  | 93 => ⟨S48x128x2048, .bf16⟩
  | 94 => ⟨S6144x2048, .bf16⟩
  | 95 => ⟨S6144x2048, .bf16⟩
  | 96 => ⟨S3x384x2048, .f32⟩
  | 97 => ⟨S_, .i32⟩
  | 98 => ⟨S6144x2048, .i32⟩
  | 99 => ⟨S6144x2048, .i32⟩
  | 100 => ⟨S_, .i32⟩
  | 101 => ⟨S6144x2048, .i32⟩
  | 102 => ⟨S6144x2048, .i32⟩
  | 103 => ⟨S6144x2048, .bf16⟩
  | 104 => ⟨S_, .bf16⟩
  | 105 => ⟨S6144x2048, .bf16⟩
  | 106 => ⟨S6144x2048, .bf16⟩
  | 107 => ⟨S48x2048, .bf16⟩
  | 108 => ⟨S48x128x2048, .bf16⟩
  | 109 => ⟨S6144x2048, .bf16⟩
  | 110 => ⟨S6144x2048, .bf16⟩
  | 111 => ⟨S3x384x2048, .f32⟩
  | 112 => ⟨S_, .i32⟩
  | 113 => ⟨S6144x2048, .i32⟩
  | 114 => ⟨S6144x2048, .i32⟩
  | 115 => ⟨S_, .i32⟩
  | 116 => ⟨S6144x2048, .i32⟩
  | 117 => ⟨S6144x2048, .i32⟩
  | 118 => ⟨S6144x2048, .bf16⟩
  | 119 => ⟨S_, .bf16⟩
  | 120 => ⟨S6144x2048, .bf16⟩
  | 121 => ⟨S6144x2048, .bf16⟩
  | 122 => ⟨S48x2048, .bf16⟩
  | 123 => ⟨S48x128x2048, .bf16⟩
  | 124 => ⟨S6144x2048, .bf16⟩
  | 125 => ⟨S6144x2048, .bf16⟩
  | 126 => ⟨S3x384x2048, .f32⟩
  | 127 => ⟨S3x384x2048x1, .f32⟩
  | _ => ⟨S3x384x6144, .bf16⟩

abbrev hbmTy0_2 (i : Nat) : BufTy := match i % 128 with
  | 0 => ⟨S3x384x2048x1, .f32⟩
  | 1 => ⟨S3x384x2048x1, .f32⟩
  | 2 => ⟨S3x384x2048x1, .f32⟩
  | 3 => ⟨S3x384x2048x1, .f32⟩
  | 4 => ⟨S3x384x2048x1, .f32⟩
  | 5 => ⟨S3x384x2048x1, .f32⟩
  | 6 => ⟨S3x384x2048x1, .f32⟩
  | 7 => ⟨S3x384x2048x8, .f32⟩
  | 8 => ⟨S3x384x16384, .f32⟩
  | 9 => ⟨S3x384x16384, .f32⟩
  | 10 => ⟨S3x384x16384, .f32⟩
  | 11 => ⟨S_, .f32⟩
  | 12 => ⟨S3x384x16384, .f32⟩
  | 13 => ⟨S3x384x16384, .f32⟩
  | 14 => ⟨S_, .f32⟩
  | 15 => ⟨S3x384x16384, .f32⟩
  | 16 => ⟨S3x384x16384, .f32⟩
  | 17 => ⟨S3x384x16384, .f32⟩
  | 18 => ⟨S3x384x16384, .f32⟩
  | 19 => ⟨S3x384x16384, .bf16⟩
  | 20 => ⟨S1152x16384, .bf16⟩
  | _ => ⟨S3x384x6144, .bf16⟩

abbrev hbmTy (i : Nat) : BufTy := match i / 128 with
  | 0 => hbmTy0_0 i
  | 1 => hbmTy0_1 i
  | 2 => hbmTy0_2 i
  | _ => ⟨S3x384x6144, .bf16⟩

abbrev bufTy : (tb : Table) → Fin (tcTables nBuf tb) → BufTy
  | .hbm, ⟨i, _⟩ => hbmTy i
  | _, _ => ⟨S3x384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_c_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_16 : Ref sig .tc := ⟨.hbm, 95, rfl⟩
abbrev main_v72 : Ref sig .tc := ⟨.hbm, 96, rfl⟩
abbrev main_v73 : Ref sig .tc := ⟨.hbm, 97, rfl⟩
abbrev main_c_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_19 : Ref sig .tc := ⟨.hbm, 110, rfl⟩
abbrev main_v84 : Ref sig .tc := ⟨.hbm, 111, rfl⟩
abbrev main_v85 : Ref sig .tc := ⟨.hbm, 112, rfl⟩
abbrev main_c_20 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_22 : Ref sig .tc := ⟨.hbm, 135, rfl⟩
abbrev main_v106 : Ref sig .tc := ⟨.hbm, 136, rfl⟩
abbrev main_v107 : Ref sig .tc := ⟨.hbm, 137, rfl⟩
abbrev main_c_23 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_24 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_25 : Ref sig .tc := ⟨.hbm, 150, rfl⟩
abbrev main_v118 : Ref sig .tc := ⟨.hbm, 151, rfl⟩
abbrev main_v119 : Ref sig .tc := ⟨.hbm, 152, rfl⟩
abbrev main_c_26 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_c_28 : Ref sig .tc := ⟨.hbm, 165, rfl⟩
abbrev main_v130 : Ref sig .tc := ⟨.hbm, 166, rfl⟩
abbrev main_v131 : Ref sig .tc := ⟨.hbm, 167, rfl⟩
abbrev main_c_29 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_30 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_31 : Ref sig .tc := ⟨.hbm, 180, rfl⟩
abbrev main_v142 : Ref sig .tc := ⟨.hbm, 181, rfl⟩
abbrev main_v143 : Ref sig .tc := ⟨.hbm, 182, rfl⟩
abbrev main_c_32 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_33 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_c_34 : Ref sig .tc := ⟨.hbm, 195, rfl⟩
abbrev main_v154 : Ref sig .tc := ⟨.hbm, 196, rfl⟩
abbrev main_v155 : Ref sig .tc := ⟨.hbm, 197, rfl⟩
abbrev main_c_35 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_36 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_c_37 : Ref sig .tc := ⟨.hbm, 210, rfl⟩
abbrev main_v166 : Ref sig .tc := ⟨.hbm, 211, rfl⟩
abbrev main_v167 : Ref sig .tc := ⟨.hbm, 212, rfl⟩
abbrev main_c_38 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_39 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_c_40 : Ref sig .tc := ⟨.hbm, 225, rfl⟩
abbrev main_v178 : Ref sig .tc := ⟨.hbm, 226, rfl⟩
abbrev main_v179 : Ref sig .tc := ⟨.hbm, 227, rfl⟩
abbrev main_c_41 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_42 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_43 : Ref sig .tc := ⟨.hbm, 240, rfl⟩
abbrev main_v190 : Ref sig .tc := ⟨.hbm, 241, rfl⟩
abbrev main_v191 : Ref sig .tc := ⟨.hbm, 242, rfl⟩
abbrev main_c_44 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_45 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_call0_v0 : Ref sig .tc := ⟨.hbm, 265, rfl⟩
abbrev main_call0_v1 : Ref sig .tc := ⟨.hbm, 266, rfl⟩
abbrev main_call0_cst : Ref sig .tc := ⟨.hbm, 267, rfl⟩
abbrev main_call0_v2 : Ref sig .tc := ⟨.hbm, 268, rfl⟩
abbrev main_call0_v3 : Ref sig .tc := ⟨.hbm, 269, rfl⟩
abbrev main_call0_cst_0 : Ref sig .tc := ⟨.hbm, 270, rfl⟩
abbrev main_call0_v4 : Ref sig .tc := ⟨.hbm, 271, rfl⟩
abbrev main_call0_v5 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩

abbrev nD : Nat := 1
abbrev τ : Topo := Topo.v7x

variable {F : FTy → Type} [FloatOps F]
-- ==== Proof.KernelFrame.lean ====
/-
  The run of the printed kernel: one grid point's body is run once by `sl_exec`, in the cases of its two conditionals,
  with the three scratch buffers and the output block at some contents (nothing is said of the values here); the
  library's frame run turns that into the run of the whole program. Hand-written, untrusted.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The condition of the first conditional (the scales are unpacked at the first point of each column block), as the
    kernel computes it. -/
def cond1 (i : grid0.Coords) : BitVec 1 :=
  Scalar.cmpi .ne (Scalar.extui (Scalar.cmpi .eq (BitVec.ofNat 32 (i 1).val) 0#32)) 0#32

/-! ## The body, run once -/

/-- The body's triple: from the five input blocks at given contents, and the output block and the scratch buffers at anything, the
    body runs to its return and hands everything back, the inputs as they were. -/
theorem kernelRun (c : Dev nD) (i : grid0.Coords)
    (a2 : Memref sig .tc .vmem S1152x6144 .bf16) (h2 : a2.IsWhole) (a3 : Memref sig .tc .vmem S6144x128 .i32) (h3 : a3.IsWhole)
    (a4 : Memref sig .tc .vmem S48x1024 .bf16) (h4 : a4.IsWhole) (a5 : Memref sig .tc .vmem S6144x128 .i32) (h5 : a5.IsWhole)
    (a6 : Memref sig .tc .vmem S48x1024 .bf16) (h6 : a6.IsWhole) (a7 : Memref sig .tc .vmem S1152x1024 .bf16) (h7 : a7.IsWhole)
    (wM : Memref sig .tc .vmem S2x6144x256 .bf16) (h8 : wM.IsWhole) (sM : Memref sig .tc .vmem S2x8x48x128 .i32) (h9 : sM.IsWhole)
    (hM : Memref sig .tc .vmem S8x576x128 .i32) (h10 : hM.IsWhole)
    (f2 : BufTy.Contents (Elt F) a2.view.ty) (f3 : BufTy.Contents (Elt F) a3.view.ty) (f4 : BufTy.Contents (Elt F) a4.view.ty)
    (f5 : BufTy.Contents (Elt F) a5.view.ty) (f6 : BufTy.Contents (Elt F) a6.view.ty) (f7 : BufTy.Contents (Elt F) a7.view.ty)
    (f8 : BufTy.Contents (Elt F) wM.view.ty) (f9 : BufTy.Contents (Elt F) sM.view.ty) (f10 : BufTy.Contents (Elt F) hM.view.ty) :
    (iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6) ∗ (a7.view.loc (c : Thread nD τ) ↦[a7.view.set]{fullShare} f7)
        ∗ (wM.view.loc (c : Thread nD τ) ↦[wM.view.set]{fullShare} f8) ∗ (sM.view.loc (c : Thread nD τ) ↦[sM.view.set]{fullShare} f9)
        ∗ (hM.view.loc (c : Thread nD τ) ↦[hM.view.set]{fullShare} f10)) : sProp 𝕄)
      ⊢ wp frame (wpE (defs₀ (F := F)) Variants.none c none) Set.univ
          (cc0__body i a2 h2 a3 h3 a4 h4 a5 h5 a6 h6 a7 h7 wM h8 sM h9 hM h10)
          (fun _ => iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6)
        ∗ (∃ f, a7.view.loc (c : Thread nD τ) ↦[a7.view.set]{fullShare} f)
        ∗ (∃ f, wM.view.loc (c : Thread nD τ) ↦[wM.view.set]{fullShare} f) ∗ (∃ f, sM.view.loc (c : Thread nD τ) ↦[sM.view.set]{fullShare} f)
        ∗ (∃ f, hM.view.loc (c : Thread nD τ) ↦[hM.view.set]{fullShare} f))) := by
  by_cases hc1 : cond1 i = 1#1 <;> by_cases hc2 : k0_cond2 i = 1#1
  all_goals
    simp only [cc0__body_eq_skeleton]; unfold cc0__body_skel
    iintro ⟨H2, H3, H4, H5, H6, H7, H8, H9, H10⟩
    sl_execs (disch := first | sl_exact hc1 | sl_exact hc2)
  all_goals
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

/-! ## The proof data and the body obligation -/

/-- The output window is forgotten (its contents are the value claim's business); the inputs are kept. -/
def forgets0 : Fin 6 → Bool := fun | 5 => true | _ => false

/-- The proof data on core `c`: the arrays as the region finds them; the inputs' blocks left as they were fetched; the scratch
    buffers at anything between points; full shares; nothing owed. -/
def dats (_ : Fin 1) (c : Dev nD) : Dat τ (Elt F) Unit ℕ (UR sig nD τ) ℕ cfg0 c where
  A w := V m c (Pipeline.arrRef spec0 w)
  after := fun | 0 => iblk m c 0 | 1 => iblk m c 1 | 2 => iblk m c 2 | 3 => iblk m c 3 | 4 => iblk m c 4 | 5 => fun t => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ X, owns (c : Thread nD τ) (st0_5 t) fullShare X))
/-- What it returns: every input block as it was, the output and the scratch at anything. -/
def bodyPost (c : Dev nD) (t : Fin cfg0.N) : sProp 𝕄 :=
  iprop(Pipeline.ΦA spec0 c ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ (∃ X, owns (c : Thread nD τ) (st0_5 t) fullShare X))

/-- The class invariant opened: the three scratch buffers, each whole at some contents, and the generator's register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
            ∗ (∃ d, owns (c : Thread nD τ) (Memref.whole cc0_scratch2) fullShare d)) ∗ ∃ r, prngReg c r) := by
  unfold Pipeline.ΦA; rw [scopedRest0_eq]; simp only [owns_whole]; try rfl

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, PhiA_eq]
  simp only [before0_0_of m (dats m 0 c) rfl (fun _ => rfl), before0_1_of m (dats m 0 c) rfl (fun _ => rfl),
    before0_2_of m (dats m 0 c) rfl (fun _ => rfl), before0_3_of m (dats m 0 c) rfl (fun _ => rfl), before0_4_of m (dats m 0 c) rfl (fun _ => rfl)]
  unfold owns
  iintro ⟨⟨⟨⟨%_, %f8, -, H8⟩, ⟨%_, %f9, -, H9⟩, ⟨%_, %f10, -, H10⟩⟩, Hg⟩, HO, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  iapply (wp_wand_r _ _ _)
  isplitl [H2 H3 H4 H5 H6 H7 H8 H9 H10]
  · iapply (kernelRun c _ _ _ _ _ _ _ _ _ _ _ _ _ _ _ _ _ _ _ f2 f3 f4 f5 f6 f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨H2, H3, H4, H5, H6, ⟨%g7, H7⟩, ⟨%g8, H8⟩, ⟨%g9, H9⟩, ⟨%g10, H10⟩⟩
  isplitl [H8 H9 H10 Hg]
  · isplitr [Hg]
    · isplitl [H8]; · iexists _, g8; isplitr; · ipureintro; rfl
                      iexact H8
      isplitl [H9]; · iexists _, g9; isplitr; · ipureintro; rfl
                      iexact H9
      iexists _, g10; isplitr; · ipureintro; rfl
      iexact H10
    iexact Hg
  isplitl [HO]; · iexact HO
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _, g7; isplitr; · ipureintro; rfl
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters, every weakly fair execution of the program ends with the input arrays as they were and
    every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the run leaves, read at the argument arrays: they are as they were. -/
theorem args_kept {r : PUnit × MemSt nD τ sig (Elt F)}
    (h : Pipeline.RDat.FramePost (cfgs 0) (fun c => (dats m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    (h.arr_in c 1 rfl).trans (V_main_arg1 m c), (h.arr_in c 2 rfl).trans (V_main_arg2 m c),
    (h.arr_in c 3 rfl).trans (V_main_arg3 m c), (h.arr_in c 4 rfl).trans (V_main_arg4 m c)⟩

end Cert.Kernel.Hand

end
-- ==== Proof.KernelLists.lean ====
/-
  What one grid point of the kernel writes, as lists of pieces (a rectangle and the values stored in it): the unpacked
  scales, one trip of the dequantization, the hidden columns, one trip of the emit. Each is written once over its own
  row, column and nibble numbers, in the order of the program's stores; the run's own lists are these. Hand-written.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe

variable {F : FTy → Type} [FloatOps F]

/-! ## The butterfly -/

/-- The lane number of every element of a plane. -/
def lane : IVec S8x128 32 := iota .tc S8x128 32 [1] iota_S8x128_d1_w32

/-- Where lane number `l` has bit `s` clear. -/
def keep (v0 : IVec S8x128 32) (s : Nat) : IVec S8x128 1 :=
  cmpi .eq (andi v0 (broadcast S8x128 (BitVec.ofNat 32 s))) (broadcast S8x128 0#32)

/-- One level of the butterfly over eight planes: planes `i` and `i + s` exchange, on the lanes, bit `s` of the plane number
    with bit `s` of the lane number. -/
def level (v0 : IVec S8x128 32) (s : Nat) (p : Fin 8 → FVec F S8x128 .bf16) (i : Fin 8) : FVec F S8x128 .bf16 :=
  if i.val / s % 2 = 0 then
    select (keep v0 s) (p i) (dynamicRotate 1 (BitVec.ofNat 32 s) none (p (Fin.ofNat 8 (i.val + s))) rotates_S8x128_d1)
  else
    select (keep v0 s) (dynamicRotate 1 (BitVec.ofNat 32 (128 - s)) none (p (Fin.ofNat 8 (i.val - s))) rotates_S8x128_d1) (p i)

/-- The three levels. -/
def net (v0 : IVec S8x128 32) (p : Fin 8 → FVec F S8x128 .bf16) : Fin 8 → FVec F S8x128 .bf16 :=
  level v0 4 (level v0 2 (level v0 1 p))

/-- The lanes of a pair of planes taken at the positions `src` (a negative position counted from the end). -/
def takeLanes (src : IVec S16x128 32) (lo hi : FVec F S8x128 .bf16) : FVec F S16x128 .bf16 :=
  truncf .bf16 (dynamicGather 1 (extf .f32 (interleaveRows S16x128 lo hi bitcasts_S16x128_w16_S8x128_w32) bitsLt_bf16_f32)
    (shapeCast S16x128 (shapeCast S16x128x1
      (select (cmpi .slt src (broadcast S16x128 0#32)) (addi src (broadcast S16x128 128#32)) src)
      shapeCasts_S16x128_S16x128x1) shapeCasts_S16x128x1_S16x128)) bitsLt_bf16_f32

/-- The rows of parity `par` of a 16-row plane. -/
def half (par : Fin 2) (x : FVec F S16x128 .bf16) : FVec F S8x128 .bf16 :=
  rowsOfParity par S8x128 x bitcasts_S16x128_w16_S8x128_w32

/-! ## The scales -/

/-- The eight planes of sixteen rows of a block of scales, the rows of one parity. -/
def scaleIn {a : Memref sig .tc .vmem S48x1024 .bf16} (f : BufTy.Contents (Elt F) a.view.ty) (r : Fin 3) (par : Fin 2) (o : Fin 8) :
    FVec F S8x128 .bf16 :=
  half par (a.view.readAt (Elt F) (Rect.unit (s := S48x1024) ![16 * r.val, 128 * o.val] S16x128.size (by
    intro a; have := r.isLt; have := o.isLt; fin_cases a
    · show 16 * r.val + 16 ≤ 48; omega
    · show 128 * o.val + 128 ≤ 1024; omega)).toLoadRect f)

/-- Plane `c` of the unpacked scales, its rows of parity `par`. -/
def scaleOut {a : Memref sig .tc .vmem S48x1024 .bf16} (v0 : IVec S8x128 32) (f : BufTy.Contents (Elt F) a.view.ty) (r : Fin 3)
    (c : Fin 8) (par : Fin 2) : FVec F S8x128 .bf16 :=
  half par (takeLanes k0_pay22 (net v0 (scaleIn (a := a) f r 0) c) (net v0 (scaleIn (a := a) f r 1) c))

/-- Where plane `c` of sixteen rows of projection `q` goes: the rows of parity `par`. -/
def scaleRect (q : Fin 2) (r : Fin 3) (c : Fin 8) (par : Fin 2) : Rect S2x8x48x2x128 :=
  ⟨⟨![q.val, c.val, 16 * r.val + par.val, 0, 0], S1x1x8x2x128.size, ![1, 1, 2, 1, 1], by
    intro a; have := q.isLt; have := r.isLt; have := c.isLt; have := par.isLt; right; fin_cases a
    · show q.val + 1 * (1 - 1) < 2; omega
    · show c.val + 1 * (1 - 1) < 8; omega
    · show 16 * r.val + par.val + 2 * (8 - 1) < 48; omega
    · show 0 + 1 * (2 - 1) < 2; omega
    · show 0 + 1 * (128 - 1) < 128; omega⟩, spos_1_1_2_1_1⟩

/-- The rows as they are stored: one value for both halves of a pair. -/
def bothHalves (x : FVec F S8x128 .bf16) : Vec F S1x1x8x2x128 .bf16 :=
  interleaveRows S1x1x8x2x128 (shapeCast S1x1x8x1x128 (shapeCast S1x1x8x128 x shapeCasts_S8x128_S1x1x8x128) shapeCasts_S1x1x8x128_S1x1x8x1x128)
    (shapeCast S1x1x8x1x128 (shapeCast S1x1x8x128 x shapeCasts_S8x128_S1x1x8x128) shapeCasts_S1x1x8x128_S1x1x8x1x128)
    bitcasts_S1x1x8x2x128_w16_S1x1x8x1x128_w32

/-- One store of the unpacked scales. -/
def scalePiece {a4 a6 : Memref sig .tc .vmem S48x1024 .bf16} (v0 : IVec S8x128 32) (f4 : BufTy.Contents (Elt F) a4.view.ty)
    (f6 : BufTy.Contents (Elt F) a6.view.ty) (q : Fin 2) (r : Fin 3) (c : Fin 8) (par : Fin 2) : View.Piece (Elt F) S2x8x48x2x128 .bf16 :=
  ⟨scaleRect q r c par, bothHalves (match q with | 0 => scaleOut (a := a4) v0 f4 r c par | 1 => scaleOut (a := a6) v0 f6 r c par)⟩

/-- All of them, last first. -/
def scaleList {a4 a6 : Memref sig .tc .vmem S48x1024 .bf16} (v0 : IVec S8x128 32) (f4 : BufTy.Contents (Elt F) a4.view.ty)
    (f6 : BufTy.Contents (Elt F) a6.view.ty) : List (View.Piece (Elt F) S2x8x48x2x128 .bf16) :=
  [1, 0].flatMap fun q => [2, 1, 0].flatMap fun r => [7, 6, 5, 4, 3, 2, 1, 0].flatMap fun c => [1, 0].map fun par =>
    scalePiece (a4 := a4) (a6 := a6) v0 f4 f6 q r c par

/-! ## One trip of the dequantization -/

/-- Word `16r` rows of a block of codes, the rows of one parity, shifted by the grid point's amount. -/
def codeRows {a : Memref sig .tc .vmem S6144x128 .i32} (arg1 : BitVec 32) (f : BufTy.Contents (Elt F) a.view.ty)
    (k : Fin k0_t1_loop.trips) (r : Fin 8) : Fin 2 → IVec S8x128 32
  | 0 => shrui (a.view.readAt (Elt F) ⟨k0_off2 k (BitVec.ofNat 32 (16 * r.val)), S8x128.size, ![2, 1], k0_off2_inb k r⟩ f : Vec F S8x128 .i32)
      (broadcast S8x128 (Scalar.muli 8#32 arg1))
  | 1 => shrui (a.view.readAt (Elt F) ⟨k0_off3 k (BitVec.ofNat 32 (16 * r.val)), S8x128.size, ![2, 1], k0_off3_inb k r⟩ f : Vec F S8x128 .i32)
      (broadcast S8x128 (Scalar.muli 8#32 arg1))

/-- The low sixteen bits of an even row's word and of the odd row's below it, in one word. -/
def both (e o : IVec S8x128 32) : IVec S8x128 32 :=
  ori (andi e (broadcast S8x128 65535#32)) (shli o (broadcast S8x128 16#32))

/-- Nibble `b` of each half, as the number 128 plus the code, less 136, times the scale. -/
def dequantBlock (w : IVec S8x128 32) (s : FVec F S16x128 .bf16) (b : Fin 2) : FVec F S16x128 .bf16 :=
  mulf (subf (bitcastToFloat .bf16 (bitcast S16x128 16
    (ori (andi (shrui w (broadcast S8x128 (BitVec.ofNat 32 (4 * b.val)))) (broadcast S8x128 983055#32)) (broadcast S8x128 1124090624#32))
    bitcasts_S8x128_w32_S16x128_w16)) (broadcast S16x128 (Scalar.ofBits .bf16 0x4308#16))) s

/-- The row of scales of the group, for nibble `b` of projection `q`, over sixteen rows. -/
def scaleRow {a9 : Memref sig .tc .vmem S2x8x48x2x128 .bf16} (i : grid0.Coords) (f : BufTy.Contents (Elt F) a9.view.ty)
    (k : Fin k0_t1_loop.trips) (b : Fin 2) : Fin 2 → FVec F S16x128 .bf16
  | 0 => k0_pay685 (a9.view.readAt (Elt F) (Rect.unit (s := S2x8x48x2x128) (k0_off1 i k (BitVec.ofNat 32 b.val)) S1x1x1x2x128.size (k0_off1_inb i k b)).toLoadRect f)
  | 1 => k0_pay685 (a9.view.readAt (Elt F) (Rect.unit (s := S2x8x48x2x128) (k0_off6 i k (BitVec.ofNat 32 b.val)) S1x1x1x2x128.size (k0_off6_inb i k b)).toLoadRect f)

/-- The offsets at which nibble `b` of sixteen rows of projection `q` go. -/
def wOff (k : Fin k0_t1_loop.trips) (r : Fin 8) (q b : Fin 2) : Fin 3 → Nat :=
  match q, b with
  | 0, 0 => k0_off4 k (BitVec.ofNat 32 (16 * r.val))
  | 0, 1 => k0_off5 k (BitVec.ofNat 32 (16 * r.val))
  | 1, 0 => k0_off7 k (BitVec.ofNat 32 (16 * r.val))
  | 1, 1 => k0_off8 k (BitVec.ofNat 32 (16 * r.val))

theorem wOff_eq (k : Fin k0_t1_loop.trips) (r : Fin 8) (q b : Fin 2) :
    wOff k r q b = ![q.val, 128 * k.val + 16 * r.val, 128 * b.val] :=
  match q, b with
  | 0, 0 => k0_off4_eq k r
  | 0, 1 => k0_off5_eq k r
  | 1, 0 => k0_off7_eq k r
  | 1, 1 => k0_off8_eq k r

theorem wOff_inb (k : Fin k0_t1_loop.trips) (r : Fin 8) (q b : Fin 2) : ∀ a, wOff k r q b a + S1x16x128.size a ≤ S2x6144x256.size a :=
  match q, b with
  | 0, 0 => k0_off4_inb k r
  | 0, 1 => k0_off5_inb k r
  | 1, 0 => k0_off7_inb k r
  | 1, 1 => k0_off8_inb k r

/-- One store of the dequantization. -/
def wPiece {a3 a5 : Memref sig .tc .vmem S6144x128 .i32} {a9 : Memref sig .tc .vmem S2x8x48x2x128 .bf16} (i : grid0.Coords) (arg1 : BitVec 32)
    (f3 : BufTy.Contents (Elt F) a3.view.ty) (f5 : BufTy.Contents (Elt F) a5.view.ty) (f9 : BufTy.Contents (Elt F) a9.view.ty)
    (k : Fin k0_t1_loop.trips) (q : Fin 2) (r : Fin 8) (b : Fin 2) : View.Piece (Elt F) S2x6144x256 .bf16 :=
  ⟨Rect.unit (wOff k r q b) S1x16x128.size (wOff_inb k r q b),
    shapeCast S1x16x128 (dequantBlock (match q with
      | 0 => both (codeRows (a := a3) arg1 f3 k r 0) (codeRows (a := a3) arg1 f3 k r 1)
      | 1 => both (codeRows (a := a5) arg1 f5 k r 0) (codeRows (a := a5) arg1 f5 k r 1))
      (scaleRow (a9 := a9) i f9 k b q) b) shapeCasts_S16x128_S1x16x128⟩

/-- One trip's stores, last first. -/
def wList {a3 a5 : Memref sig .tc .vmem S6144x128 .i32} {a9 : Memref sig .tc .vmem S2x8x48x2x128 .bf16} (i : grid0.Coords) (arg1 : BitVec 32)
    (f3 : BufTy.Contents (Elt F) a3.view.ty) (f5 : BufTy.Contents (Elt F) a5.view.ty) (f9 : BufTy.Contents (Elt F) a9.view.ty)
    (k : Fin k0_t1_loop.trips) : List (View.Piece (Elt F) S2x6144x256 .bf16) :=
  [1, 0].flatMap fun q => [7, 6, 5, 4, 3, 2, 1, 0].flatMap fun r => [1, 0].map fun b =>
    wPiece (a3 := a3) (a5 := a5) (a9 := a9) i arg1 f3 f5 f9 k q r b

/-! ## The hidden columns -/

/-- The window's rows `384 m …` against one projection's unpacked weights. -/
def product {a2 : Memref sig .tc .vmem S1152x6144 .bf16} {a8 : Memref sig .tc .vmem S2x6144x256 .bf16}
    (f2 : BufTy.Contents (Elt F) a2.view.ty) (f8 : BufTy.Contents (Elt F) a8.view.ty) (m : Fin 3) (q : Fin 2) : FVec F S384x256 .f32 :=
  matmul dot_S384x6144_S6144x256_S384x256_1_0_0_1_n_n none
    (shapeCast S384x6144 (a2.view.readAt (Elt F) (Rect.unit (s := S1152x6144) ![384 * m.val, 0] S384x6144.size (by
      intro a; have := m.isLt; fin_cases a
      · show 384 * m.val + 384 ≤ 1152; omega
      · show 0 + 6144 ≤ 6144; omega)).toLoadRect f2 : Vec F S384x6144 .bf16) shapeCasts_S384x6144_S384x6144)
    (shapeCast S6144x256 (a8.view.readAt (Elt F) (Rect.unit (s := S2x6144x256) ![q.val, 0, 0] S1x6144x256.size (by
      intro a; have := q.isLt; fin_cases a
      · show q.val + 1 ≤ 2; omega
      · show 0 + 6144 ≤ 6144; omega
      · show 0 + 256 ≤ 256; omega)).toLoadRect f8 : Vec F S1x6144x256 .bf16) shapeCasts_S1x6144x256_S6144x256)
    (constant S384x256 .f32 0x00000000#32)

/-- `silu (gate) * up`, rounded. -/
def hidden {a2 : Memref sig .tc .vmem S1152x6144 .bf16} {a8 : Memref sig .tc .vmem S2x6144x256 .bf16}
    (f2 : BufTy.Contents (Elt F) a2.view.ty) (f8 : BufTy.Contents (Elt F) a8.view.ty) (m : Fin 3) : FVec F S384x256 .bf16 :=
  truncf .bf16 (mulf (mulf (product (a2 := a2) (a8 := a8) f2 f8 m 0) (logistic (product (a2 := a2) (a8 := a8) f2 f8 m 0)))
    (product (a2 := a2) (a8 := a8) f2 f8 m 1)) bitsLt_bf16_f32

/-- Its half `b`: columns `128 b …`. -/
def hiddenHalf (h : FVec F S384x256 .bf16) : Fin 2 → FVec F S384x128 .bf16
  | 0 => extractStridedSlice S384x128 ![0, 0] h slices_S384x256_o0_0_S384x128
  | 1 => extractStridedSlice S384x128 ![0, 128] h slices_S384x256_o0_128_S384x128

/-- As it is stored: rows in pairs. -/
def paired (x : FVec F S384x128 .bf16) : Vec F S1x192x2x128 .bf16 :=
  interleaveRows S1x192x2x128
    (shapeCast S1x192x1x128 (shapeCast S1x192x128 (rowsOfParity 0 S192x128 x bitcasts_S384x128_w16_S192x128_w32) shapeCasts_S192x128_S1x192x128)
      shapeCasts_S1x192x128_S1x192x1x128)
    (shapeCast S1x192x1x128 (shapeCast S1x192x128 (rowsOfParity 1 S192x128 x bitcasts_S384x128_w16_S192x128_w32) shapeCasts_S192x128_S1x192x128)
      shapeCasts_S1x192x128_S1x192x1x128)
    bitcasts_S1x192x2x128_w16_S1x192x1x128_w32

/-- The offsets of window `m`'s half `b`. -/
def hOff (i : grid0.Coords) (m : Fin 3) (b : Fin 2) : Fin 4 → Nat :=
  match m with
  | 0 => k0_off9 i (BitVec.ofNat 32 b.val)
  | 1 => k0_off10 i (BitVec.ofNat 32 b.val)
  | 2 => k0_off11 i (BitVec.ofNat 32 b.val)

/-- The column plane of step `a`'s nibble `b`: 0, 2, 4, 6, 1, 3, 5, 7 at `2a + b`. -/
def plane (a b : Nat) : Nat := 4 * a + 2 * b - 7 * (a / 2)

theorem hOff_eq (i : grid0.Coords) (m : Fin 3) (b : Fin 2) : hOff i m b = ![plane (i 1).val b.val, 192 * m.val, 0, 0] := by
  revert m b i; decide +kernel

theorem hOff_inb (i : grid0.Coords) (m : Fin 3) (b : Fin 2) : ∀ a, hOff i m b a + S1x192x2x128.size a ≤ S8x576x2x128.size a :=
  match m with
  | 0 => k0_off9_inb i b
  | 1 => k0_off10_inb i b
  | 2 => k0_off11_inb i b

/-- One store of the hidden columns. -/
def hPiece {a2 : Memref sig .tc .vmem S1152x6144 .bf16} {a8 : Memref sig .tc .vmem S2x6144x256 .bf16} (i : grid0.Coords)
    (f2 : BufTy.Contents (Elt F) a2.view.ty) (f8 : BufTy.Contents (Elt F) a8.view.ty) (m : Fin 3) (b : Fin 2) :
    View.Piece (Elt F) S8x576x2x128 .bf16 :=
  ⟨Rect.unit (hOff i m b) S1x192x2x128.size (hOff_inb i m b), paired (hiddenHalf (hidden (a2 := a2) (a8 := a8) f2 f8 m) b)⟩

/-- All of them, last first. -/
def hList {a2 : Memref sig .tc .vmem S1152x6144 .bf16} {a8 : Memref sig .tc .vmem S2x6144x256 .bf16} (i : grid0.Coords)
    (f2 : BufTy.Contents (Elt F) a2.view.ty) (f8 : BufTy.Contents (Elt F) a8.view.ty) : List (View.Piece (Elt F) S8x576x2x128 .bf16) :=
  [2, 1, 0].flatMap fun m => [1, 0].map fun b => hPiece (a2 := a2) (a8 := a8) i f2 f8 m b

/-! ## One trip of the emit -/

/-- The offsets of eight row pairs of plane `c`. -/
def planeOff (k : Fin k0_t2_loop.trips) : Fin 8 → Fin 4 → Nat
  | 0 => k0_off12 k | 1 => k0_off13 k | 2 => k0_off14 k | 3 => k0_off15 k
  | 4 => k0_off16 k | 5 => k0_off17 k | 6 => k0_off18 k | 7 => k0_off19 k

theorem planeOff_eq (k : Fin k0_t2_loop.trips) : ∀ c : Fin 8, planeOff k c = ![c.val, 8 * k.val, 0, 0]
  | 0 => k0_off12_eq k | 1 => k0_off13_eq k | 2 => k0_off14_eq k | 3 => k0_off15_eq k
  | 4 => k0_off16_eq k | 5 => k0_off17_eq k | 6 => k0_off18_eq k | 7 => k0_off19_eq k

theorem planeOff_inb (k : Fin k0_t2_loop.trips) (c : Fin 8) : ∀ a, planeOff k c a + S1x8x2x128.size a ≤ S8x576x2x128.size a := by
  intro a; rw [planeOff_eq]; have := k.isLt; have := k0_t2_abs.2.1; have := c.isLt; fin_cases a
  · show c.val + 1 ≤ 8; omega
  · show 8 * k.val + 8 ≤ 576; omega
  · show 0 + 2 ≤ 2; omega
  · show 0 + 128 ≤ 128; omega

/-- The offsets of sixteen rows of column block `o`. -/
def outOff (k : Fin k0_t2_loop.trips) : Fin 8 → Fin 2 → Nat
  | 0 => k0_off20 k | 1 => k0_off21 k | 2 => k0_off22 k | 3 => k0_off23 k
  | 4 => k0_off24 k | 5 => k0_off25 k | 6 => k0_off26 k | 7 => k0_off27 k

theorem outOff_eq (k : Fin k0_t2_loop.trips) : ∀ c : Fin 8, outOff k c = ![16 * k.val, 128 * c.val]
  | 0 => k0_off20_eq k | 1 => k0_off21_eq k | 2 => k0_off22_eq k | 3 => k0_off23_eq k
  | 4 => k0_off24_eq k | 5 => k0_off25_eq k | 6 => k0_off26_eq k | 7 => k0_off27_eq k

theorem outOff_inb (k : Fin k0_t2_loop.trips) (c : Fin 8) : ∀ a, outOff k c a + S16x128.size a ≤ S1152x1024.size a := by
  intro a; rw [outOff_eq]; have := k.isLt; have := k0_t2_abs.2.1; have := c.isLt; fin_cases a
  · show 16 * k.val + 16 ≤ 1152; omega
  · show 128 * c.val + 128 ≤ 1024; omega

/-- The rows of parity `par` of eight row pairs of plane `c`. -/
def planeIn {a10 : Memref sig .tc .vmem S8x576x2x128 .bf16} (f : BufTy.Contents (Elt F) a10.view.ty) (k : Fin k0_t2_loop.trips)
    (par : Fin 2) (c : Fin 8) : FVec F S8x128 .bf16 :=
  shapeCast S8x128 (shapeCast S1x8x128 (rowsOfParity par S1x8x1x128
    (a10.view.readAt (Elt F) (Rect.unit (s := S8x576x2x128) (planeOff k c) S1x8x2x128.size (planeOff_inb k c)).toLoadRect f : Vec F S1x8x2x128 .bf16)
    bitcasts_S1x8x2x128_w16_S1x8x1x128_w32) shapeCasts_S1x8x1x128_S1x8x128) shapeCasts_S1x8x128_S8x128

/-- The planes with their lanes taken in the order the butterfly wants. -/
def planeTaken {a10 : Memref sig .tc .vmem S8x576x2x128 .bf16} (f : BufTy.Contents (Elt F) a10.view.ty) (k : Fin k0_t2_loop.trips)
    (par : Fin 2) (c : Fin 8) : FVec F S8x128 .bf16 :=
  half par (takeLanes k0_pay770 (planeIn (a10 := a10) f k 0 c) (planeIn (a10 := a10) f k 1 c))

/-- One store of the emit. -/
def outPiece {a10 : Memref sig .tc .vmem S8x576x2x128 .bf16} (v0 : IVec S8x128 32) (f : BufTy.Contents (Elt F) a10.view.ty)
    (k : Fin k0_t2_loop.trips) (o : Fin 8) : View.Piece (Elt F) S1152x1024 .bf16 :=
  ⟨Rect.unit (outOff k o) S16x128.size (outOff_inb k o), interleaveRows S16x128 (net v0 (planeTaken (a10 := a10) f k 0) o)
    (net v0 (planeTaken (a10 := a10) f k 1) o) bitcasts_S16x128_w16_S8x128_w32⟩

/-- One trip's stores, last first. -/
def outList {a10 : Memref sig .tc .vmem S8x576x2x128 .bf16} (v0 : IVec S8x128 32) (f : BufTy.Contents (Elt F) a10.view.ty)
    (k : Fin k0_t2_loop.trips) : List (View.Piece (Elt F) S1152x1024 .bf16) :=
  [7, 6, 5, 4, 3, 2, 1, 0].map fun o => outPiece (a10 := a10) v0 f k o

end Cert.KernelIdeal.Hand

end
-- ==== Proof.KernelTrips.lean ====
/-
  The generated loops' pieces are the lists of `KernelLists`: one trip's, and all the trips' before a given one.
  Hand-written.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.KernelLists

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

variable (𝒱 : Variants) (c : Dev nD) (bd : Option 𝒱.V) (i : grid0.Coords) (arg2 : Memref sig .tc .vmem S1152x6144 .bf16) (harg2 : arg2.IsWhole)
    (arg3 : Memref sig .tc .vmem S6144x128 .i32) (harg3 : arg3.IsWhole) (arg4 : Memref sig .tc .vmem S48x1024 .bf16) (harg4 : arg4.IsWhole)
    (arg5 : Memref sig .tc .vmem S6144x128 .i32) (harg5 : arg5.IsWhole) (arg6 : Memref sig .tc .vmem S48x1024 .bf16) (harg6 : arg6.IsWhole)
    (arg7 : Memref sig .tc .vmem S1152x1024 .bf16) (harg7 : arg7.IsWhole) (arg8 : Memref sig .tc .vmem S2x6144x256 .bf16) (harg8 : arg8.IsWhole)
    (arg9 : Memref sig .tc .vmem S2x8x48x2x128 .bf16) (harg9 : arg9.IsWhole) (arg10 : Memref sig .tc .vmem S8x576x2x128 .bf16) (harg10 : arg10.IsWhole)

/-- A trip of the dequantization stores `wList`. -/
theorem trip1_eq (arg1 : BitVec 32) (f3 : BufTy.Contents (Elt F) arg3.view.ty) (f5 : BufTy.Contents (Elt F) arg5.view.ty)
    (f9 : BufTy.Contents (Elt F) arg9.view.ty) (k : Fin k0_t1_loop.trips) :
    tripL_k0_t1 𝒱 c bd i arg2 harg2 arg3 harg3 arg4 harg4 arg5 harg5 arg6 harg6 arg7 harg7 arg8 harg8 arg9 harg9 arg10 harg10 arg1 f3 f5 f9 k
      = wList (a3 := arg3) (a5 := arg5) (a9 := arg9) i arg1 f3 f5 f9 k := by
  unfold tripL_k0_t1 trip_k0_t1; rfl

/-- A trip of the emit stores `outList`. -/
theorem trip2_eq (v0 : IVec S8x128 32) (h2 : k0_cond2 i = 1#1) (f10 : BufTy.Contents (Elt F) arg10.view.ty) (k : Fin k0_t2_loop.trips) :
    tripL_k0_t2 (F := F) 𝒱 c bd i arg2 harg2 arg3 harg3 arg4 harg4 arg5 harg5 arg6 harg6 arg7 harg7 arg8 harg8 arg9 harg9 arg10 harg10 v0 h2 f10 k
      = outList (a10 := arg10) v0 f10 k := by
  unfold tripL_k0_t2 trip_k0_t2; rfl

end Cert.KernelIdeal.Hand

end
-- ==== Proof.KernelRun.lean ====
/-
  One grid point's body of the idealized kernel, run once by `sl_exec` in the cases of its two conditionals: what it
  leaves in each scratch buffer and in the output block, as the lists of `KernelLists` written over what was there.
  Hand-written, untrusted.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.KernelTrips

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The condition of the first conditional (the scales are unpacked at the first point of each column block), as the
    kernel computes it. -/
def cond1 (i : grid0.Coords) : BitVec 1 :=
  Scalar.cmpi .ne (Scalar.extui (Scalar.cmpi .eq (BitVec.ofNat 32 (i 1).val) 0#32)) 0#32

instance (i : grid0.Coords) : ClosedOff (k0_off9 i 0#32) := ⟨![4 * (i 1).val + 2 * 0 - 7 * ((i 1).val / 2), 0, 0, 0], hOff_eq i 0 0⟩
instance (i : grid0.Coords) : ClosedOff (k0_off9 i 1#32) := ⟨![4 * (i 1).val + 2 * 1 - 7 * ((i 1).val / 2), 0, 0, 0], hOff_eq i 0 1⟩
instance (i : grid0.Coords) : ClosedOff (k0_off10 i 0#32) := ⟨![4 * (i 1).val + 2 * 0 - 7 * ((i 1).val / 2), 192, 0, 0], hOff_eq i 1 0⟩
instance (i : grid0.Coords) : ClosedOff (k0_off10 i 1#32) := ⟨![4 * (i 1).val + 2 * 1 - 7 * ((i 1).val / 2), 192, 0, 0], hOff_eq i 1 1⟩
instance (i : grid0.Coords) : ClosedOff (k0_off11 i 0#32) := ⟨![4 * (i 1).val + 2 * 0 - 7 * ((i 1).val / 2), 384, 0, 0], hOff_eq i 2 0⟩
instance (i : grid0.Coords) : ClosedOff (k0_off11 i 1#32) := ⟨![4 * (i 1).val + 2 * 1 - 7 * ((i 1).val / 2), 384, 0, 0], hOff_eq i 2 1⟩

set_option maxHeartbeats 4000000 in
/-- The body's triple: from the five input blocks, the output block and the scratch buffers at given contents, the body runs to its
    return and hands everything back: the inputs as they were, the scales rewritten at a column block's first point, the weights
    unpacked, two planes of hidden columns written, and at its last point the output block. -/
theorem kernelRun (c : Dev nD) (i : grid0.Coords)
    (a2 : Memref sig .tc .vmem S1152x6144 .bf16) (h2 : a2.IsWhole) (a3 : Memref sig .tc .vmem S6144x128 .i32) (h3 : a3.IsWhole)
    (a4 : Memref sig .tc .vmem S48x1024 .bf16) (h4 : a4.IsWhole) (a5 : Memref sig .tc .vmem S6144x128 .i32) (h5 : a5.IsWhole)
    (a6 : Memref sig .tc .vmem S48x1024 .bf16) (h6 : a6.IsWhole) (a7 : Memref sig .tc .vmem S1152x1024 .bf16) (h7 : a7.IsWhole)
    (wM : Memref sig .tc .vmem S2x6144x256 .bf16) (h8 : wM.IsWhole) (sM : Memref sig .tc .vmem S2x8x48x2x128 .bf16) (h9 : sM.IsWhole)
    (hM : Memref sig .tc .vmem S8x576x2x128 .bf16) (h10 : hM.IsWhole)
    (f2 : BufTy.Contents (Elt F) a2.view.ty) (f3 : BufTy.Contents (Elt F) a3.view.ty) (f4 : BufTy.Contents (Elt F) a4.view.ty)
    (f5 : BufTy.Contents (Elt F) a5.view.ty) (f6 : BufTy.Contents (Elt F) a6.view.ty) (f7 : BufTy.Contents (Elt F) a7.view.ty)
    (f8 : BufTy.Contents (Elt F) wM.view.ty) (f9 : BufTy.Contents (Elt F) sM.view.ty) (f10 : BufTy.Contents (Elt F) hM.view.ty) :
    (iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6) ∗ (a7.view.loc (c : Thread nD τ) ↦[a7.view.set]{fullShare} f7)
        ∗ (wM.view.loc (c : Thread nD τ) ↦[wM.view.set]{fullShare} f8) ∗ (sM.view.loc (c : Thread nD τ) ↦[sM.view.set]{fullShare} f9)
        ∗ (hM.view.loc (c : Thread nD τ) ↦[hM.view.set]{fullShare} f10)) : sProp 𝕄)
      ⊢ wp frame (wpE (defs₀ (F := F)) Variants.none c none) Set.univ
          (cc0__body i a2 h2 a3 h3 a4 h4 a5 h5 a6 h6 a7 h7 wM h8 sM h9 hM h10)
          (fun _ => iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6)
        ∗ (∃ g7 : BufTy.Contents (Elt F) a7.view.ty, ∃ g8 : BufTy.Contents (Elt F) wM.view.ty, ∃ g9 : BufTy.Contents (Elt F) sM.view.ty, ∃ g10 : BufTy.Contents (Elt F) hM.view.ty,
          ⌜(cond1 i = 1#1 → g9 = sM.view.writes (Elt F) f9 (scaleList (a4 := a4) (a6 := a6) lane f4 f6)) ∧ (cond1 i ≠ 1#1 → g9 = f9)
            ∧ g8 = wM.view.writes (Elt F) f8 (pb_k0_t1 (F := F) Variants.none c none i a2 h2 a3 h3 a4 h4 a5 h5 a6 h6 a7 h7 wM h8 sM h9 hM h10 (BitVec.ofNat 32 (i 1).val) f3 f5 g9 k0_t1_loop.trips)
            ∧ g10 = hM.view.writes (Elt F) f10 (hList (a2 := a2) (a8 := wM) i f2 g8)
            ∧ (∀ h : k0_cond2 i = 1#1, g7 = a7.view.writes (Elt F) f7 (pb_k0_t2 (F := F) Variants.none c none i a2 h2 a3 h3 a4 h4 a5 h5 a6 h6 a7 h7 wM h8 sM h9 hM h10 lane h g10 k0_t2_loop.trips))
            ∧ (k0_cond2 i ≠ 1#1 → g7 = f7)⌝
          ∗ (a7.view.loc (c : Thread nD τ) ↦[a7.view.set]{fullShare} g7) ∗ (wM.view.loc (c : Thread nD τ) ↦[wM.view.set]{fullShare} g8)
          ∗ (sM.view.loc (c : Thread nD τ) ↦[sM.view.set]{fullShare} g9) ∗ (hM.view.loc (c : Thread nD τ) ↦[hM.view.set]{fullShare} g10)))) := by
  by_cases hc1 : cond1 i = 1#1 <;> by_cases hc2 : k0_cond2 i = 1#1
  all_goals
    simp only [cc0__body_eq_skeleton]; unfold cc0__body_skel
    iintro ⟨H2, H3, H4, H5, H6, H7, H8, H9, H10⟩
    sl_execs (disch := first | sl_exact hc1 | sl_exact hc2)
  all_goals
    sl_step
    isplitl [H2]; · iexact H2
    isplitl [H3]; · iexact H3
    isplitl [H4]; · iexact H4
    isplitl [H5]; · iexact H5
    isplitl [H6]; · iexact H6
    iexists _, _, _, _
    isplitr
    rotate_left
    · isplitl [H7]; · iexact H7
      isplitl [H8]; · iexact H8
      isplitl [H9]; · iexact H9
      iexact H10
    ipureintro
    refine ⟨fun h => ?_, fun h => ?_, ?_, ?_, fun h => ?_, fun h => ?_⟩
    · first | exact absurd h hc1 | rfl
    · first | exact absurd hc1 h | rfl
    · rfl
    · rfl
    · first | exact absurd h hc2 | rfl
    · first | exact absurd hc2 h | rfl

end Cert.KernelIdeal.Hand

end
-- ==== Proof.KernelOffsets.lean ====
/-
  Where the rows of scales are read from, in closed form. Hand-written.
-/
module

public import proofs.«01_k».proof.Proof.KernelLists

@[expose] public section

noncomputable section

namespace Cert.KernelIdeal.Hand

open Cert.KernelIdeal Cert.KernelIdeal.Gen
open Idealize.ShloMosaic Idealize.ShloMosaic.TcCoe

theorem off1_eq (i : grid0.Coords) (k : Fin k0_t1_loop.trips) (b : Fin 2) :
    k0_off1 i k (BitVec.ofNat 32 b.val) = ![0, plane (i 1).val b.val, k.val, 0, 0] := by
  revert b k i; decide +kernel

theorem off2_eq (k : Fin k0_t1_loop.trips) (r : Fin 8) : k0_off2 k (BitVec.ofNat 32 (16 * r.val)) = ![128 * k.val + 16 * r.val, 0] := by
  revert r k; decide +kernel

theorem off3_eq (k : Fin k0_t1_loop.trips) (r : Fin 8) : k0_off3 k (BitVec.ofNat 32 (16 * r.val)) = ![128 * k.val + 16 * r.val + 1, 0] := by
  revert r k; decide +kernel

theorem trips1_eq : k0_t1_loop.trips = 48 := by decide +kernel

theorem trips2_eq : k0_t2_loop.trips = 72 := by decide +kernel

theorem off6_eq (i : grid0.Coords) (k : Fin k0_t1_loop.trips) (b : Fin 2) :
    k0_off6 i k (BitVec.ofNat 32 b.val) = ![1, plane (i 1).val b.val, k.val, 0, 0] := by
  revert b k i; decide +kernel

end Cert.KernelIdeal.Hand

end
-- ==== Proof.KernelNet.lean ====
/-
  The butterfly at an index: which plane and which lane each value comes from. Hand-written.
-/
module

public import proofs.«01_k».proof.Proof.KernelLists
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The plane from which one level brings a value to plane `i`, lane `l`. -/
def fromPlane (s : Nat) (i : Fin 8) (l : Fin 128) : Fin 8 :=
  if i.val / s % 2 = l.val / s % 2 then i else if i.val / s % 2 = 0 then Fin.ofNat 8 (i.val + s) else Fin.ofNat 8 (i.val - s)
/-- The lane from which it brings it. -/
def fromLane (s : Nat) (i : Fin 8) (l : Fin 128) : Fin 128 :=
  if i.val / s % 2 = l.val / s % 2 then l else if i.val / s % 2 = 0 then Fin.ofNat 128 (l.val - s) else Fin.ofNat 128 (l.val + s)

theorem keep_word : ∀ (s : Fin 3) (l : Fin 128),
    IntOp.cmpi .eq (IntOp.andi (BitVec.ofNat 32 l.val) (BitVec.ofNat 32 (2 ^ s.val))) 0#32 = BitVec.ofBool (decide (l.val / 2 ^ s.val % 2 = 0)) := by
  decide +kernel

theorem rot_down : ∀ (s : Fin 3) (l : Fin 128), ¬ l.val / 2 ^ s.val % 2 = 0 →
    (l.val + 128 - (BitVec.ofNat 32 (2 ^ s.val)).toNat % 128) % 128 = (Fin.ofNat 128 (l.val - 2 ^ s.val)).val := by decide +kernel
theorem rot_up : ∀ (s : Fin 3) (l : Fin 128), l.val / 2 ^ s.val % 2 = 0 →
    (l.val + 128 - (BitVec.ofNat 32 (128 - 2 ^ s.val)).toNat % 128) % 128 = (Fin.ofNat 128 (l.val + 2 ^ s.val)).val := by decide +kernel

/-- One level at an index. -/
theorem level_apply (s : Fin 3) (p : Fin 8 → FVec F S8x128 .bf16) (i : Fin 8) (r : Fin 8) (l : Fin 128) :
    level lane (2 ^ s.val) p i (ix2 r l) = p (fromPlane (2 ^ s.val) i l) (ix2 r (fromLane (2 ^ s.val) i l)) := by
  unfold level fromPlane fromLane
  split
  · rename_i hi
    pointwise [keep, lane]
    rw [keep_word s l]
    by_cases hl : l.val / 2 ^ s.val % 2 = 0
    · rw [if_pos (hi.trans hl.symm), if_pos (hi.trans hl.symm)]; simp only [hl, decide_true]; rfl
    · have hne : ¬ i.val / 2 ^ s.val % 2 = l.val / 2 ^ s.val % 2 := by omega
      rw [if_neg hne, if_neg hne]; simp only [hl, decide_false]
      exact congrArg (fun z => p (Fin.ofNat 8 (i.val + 2 ^ s.val)) (ix2 r z)) (Fin.ext (rot_down s l hl))
  · rename_i hi
    pointwise [keep, lane]
    rw [keep_word s l]
    by_cases hl : l.val / 2 ^ s.val % 2 = 0
    · have hne : ¬ i.val / 2 ^ s.val % 2 = l.val / 2 ^ s.val % 2 := by omega
      rw [if_neg hne, if_neg hne]; simp only [hl, decide_true]
      exact congrArg (fun z => p (Fin.ofNat 8 (i.val - 2 ^ s.val)) (ix2 r z)) (Fin.ext (rot_up s l hl))
    · have he : i.val / 2 ^ s.val % 2 = l.val / 2 ^ s.val % 2 := by omega
      rw [if_pos he, if_pos he]; simp only [hl, decide_false]; rfl

/-- The three levels together: plane `i`, lane `l` comes from plane `l % 8`, the lane of `l`'s block of eight numbered `i`. -/
theorem net_from : ∀ (i : Fin 8) (l : Fin 128),
    (fromPlane 1 (fromPlane 2 (fromPlane 4 i l) (fromLane 4 i l)) (fromLane 2 (fromPlane 4 i l) (fromLane 4 i l))).val = l.val % 8
    ∧ (fromLane 1 (fromPlane 2 (fromPlane 4 i l) (fromLane 4 i l)) (fromLane 2 (fromPlane 4 i l) (fromLane 4 i l))).val = l.val / 8 * 8 + i.val := by
  decide +kernel

theorem net_apply (p : Fin 8 → FVec F S8x128 .bf16) (i : Fin 8) (r : Fin 8) (l : Fin 128) :
    net lane p i (ix2 r l) = p ⟨l.val % 8, by omega⟩ (ix2 r ⟨l.val / 8 * 8 + i.val, by omega⟩) := by
  have h4 := level_apply (2 : Fin 3) (level lane 2 (level lane 1 p)) i r l
  have h2 := level_apply (1 : Fin 3) (level lane 1 p) (fromPlane 4 i l) r (fromLane 4 i l)
  have h1 := level_apply (0 : Fin 3) p (fromPlane 2 (fromPlane 4 i l) (fromLane 4 i l)) r (fromLane 2 (fromPlane 4 i l) (fromLane 4 i l))
  obtain ⟨e1, e2⟩ := net_from i l
  refine (h4.trans (h2.trans h1)).trans ?_
  exact congr (congrArg p (Fin.ext e1)) (congrArg (ix2 r) (Fin.ext e2))

/-! ## The lanes taken -/

/-- The position the scales' last step takes lane `l` from, as the kernel's words compute it. -/
theorem in_word : ∀ l : Fin 128,
    (Scalar.select (IntOp.cmpi .slt (IntOp.ori (IntOp.shli .vector (IntOp.andi (BitVec.ofNat 32 l.val) 15#32) 3#32)
        (IntOp.shrsi .vector (BitVec.ofNat 32 l.val) 4#32)) 0#32)
      (IntOp.addi (IntOp.ori (IntOp.shli .vector (IntOp.andi (BitVec.ofNat 32 l.val) 15#32) 3#32)
        (IntOp.shrsi .vector (BitVec.ofNat 32 l.val) 4#32)) 128#32)
      (IntOp.ori (IntOp.shli .vector (IntOp.andi (BitVec.ofNat 32 l.val) 15#32) 3#32)
        (IntOp.shrsi .vector (BitVec.ofNat 32 l.val) 4#32))).toNat % 128 = 8 * (l.val % 16) + l.val / 16 := by decide +kernel

/-- The same of the emit's first step. -/
theorem out_word : ∀ l : Fin 128,
    (Scalar.select (IntOp.cmpi .slt (IntOp.ori (IntOp.shli .vector (IntOp.andi (BitVec.ofNat 32 l.val) 7#32) 4#32)
        (IntOp.shrsi .vector (BitVec.ofNat 32 l.val) 3#32)) 0#32)
      (IntOp.addi (IntOp.ori (IntOp.shli .vector (IntOp.andi (BitVec.ofNat 32 l.val) 7#32) 4#32)
        (IntOp.shrsi .vector (BitVec.ofNat 32 l.val) 3#32)) 128#32)
      (IntOp.ori (IntOp.shli .vector (IntOp.andi (BitVec.ofNat 32 l.val) 7#32) 4#32)
        (IntOp.shrsi .vector (BitVec.ofNat 32 l.val) 3#32))).toNat % 128 = 16 * (l.val % 8) + l.val / 8 := by decide +kernel

/-- The lanes of a pair of planes taken at the scales' positions, the rows of one parity. -/
theorem takeIn_apply (par : Fin 2) (x : Fin 2 → FVec Ideal S8x128 .bf16) (r : Fin 8) (l : Fin 128) :
    half par (takeLanes k0_pay22 (x 0) (x 1)) (ix2 r l) = x par (ix2 r ⟨8 * (l.val % 16) + l.val / 16, by omega⟩) := by
  have hr0 : 2 * r.val / 2 = r.val := by omega
  have hr1 : (2 * r.val + 1) / 2 = r.val := by omega
  have h0 : 2 * r.val % 2 = 0 := by omega
  have h1 : (2 * r.val + 1) % 2 = 1 := by omega
  fin_cases par <;> pointwise [half, takeLanes, k0_pay22] <;> simp only [h0, h1, hr0, hr1, in_word, if_true, if_false, Nat.one_ne_zero] <;> rfl

/-- The same at the emit's positions. -/
theorem takeOut_apply (par : Fin 2) (x : Fin 2 → FVec Ideal S8x128 .bf16) (r : Fin 8) (l : Fin 128) :
    half par (takeLanes k0_pay770 (x 0) (x 1)) (ix2 r l) = x par (ix2 r ⟨16 * (l.val % 8) + l.val / 8, by omega⟩) := by
  have hr0 : 2 * r.val / 2 = r.val := by omega
  have hr1 : (2 * r.val + 1) / 2 = r.val := by omega
  have h0 : 2 * r.val % 2 = 0 := by omega
  have h1 : (2 * r.val + 1) % 2 = 1 := by omega
  fin_cases par <;> pointwise [half, takeLanes, k0_pay770] <;> simp only [h0, h1, hr0, hr1, out_word, if_true, if_false, Nat.one_ne_zero] <;> rfl

end Cert.KernelIdeal.Hand

end
-- ==== Proof.KernelEmit.lean ====
/-
  The output block at an index: what the last step of a block stores. Hand-written.
-/
module

public import proofs.«01_k».proof.Proof.KernelOffsets
public import proofs.«01_k».proof.Proof.KernelNet
public import proofs.«01_k».proof.Proof.KernelTrips

@[expose] public section

set_option maxRecDepth 16384

noncomputable section

namespace Cert.KernelIdeal.Hand

open Cert.KernelIdeal Cert.KernelIdeal.Gen
open Idealize.ShloMosaic Idealize.ShloMosaic.TcCoe

theorem trip2_lt (k : Fin k0_t2_loop.trips) : k.val < 72 := Nat.lt_of_lt_of_eq k.isLt trips2_eq

section

variable {a10 : Memref sig .tc .vmem S8x576x2x128 .bf16} (f : BufTy.Contents (Elt Ideal) a10.view.ty)

theorem planeIn_apply (k : Fin k0_t2_loop.trips) (par : Fin 2) (c : Fin 8) (g : Fin 8) (l : Fin 128) :
    planeIn (a10 := a10) f k par c (ix2 g l) = a10.view.read (Elt Ideal) f (ix4 c ⟨8 * k.val + g.val, by have := trip2_lt k; omega⟩ par l) := by
  have leaf : ∀ y : S8x576x2x128.Idx, (y 0).val = c.val → (y 1).val = 8 * k.val + g.val → (y 2).val = par.val → (y 3).val = l.val →
      a10.view.read (Elt Ideal) f y = a10.view.read (Elt Ideal) f (ix4 c ⟨8 * k.val + g.val, by have := trip2_lt k; omega⟩ par l) := by
    intro y h0 h1 h2 h3
    idx_vars y
    obtain rfl : y0 = c := Fin.ext h0
    obtain rfl : y2 = par := Fin.ext h2
    obtain rfl : y3 = l := Fin.ext h3
    exact congrArg (fun z => a10.view.read (Elt Ideal) f (ix4 y0 z y2 y3)) (Fin.ext h1)
  fin_cases par
  · pointwise [planeIn, View.readAt_apply]
    refine leaf _ ?_ ?_ ?_ ?_
    · show planeOff k c 0 = _; rw [planeOff_eq]; rfl
    · show planeOff k c 1 + g.val = _; rw [planeOff_eq]; rfl
    · show planeOff k c 2 = _; rw [planeOff_eq]; rfl
    · show planeOff k c 3 + l.val = _; rw [planeOff_eq]; show 0 + l.val = _; omega
  · pointwise [planeIn, View.readAt_apply]
    refine leaf _ ?_ ?_ ?_ ?_
    · show planeOff k c 0 = _; rw [planeOff_eq]; rfl
    · show planeOff k c 1 + g.val = _; rw [planeOff_eq]; rfl
    · show planeOff k c 2 + 1 = _; rw [planeOff_eq]; rfl
    · show planeOff k c 3 + l.val = _; rw [planeOff_eq]; show 0 + l.val = _; omega

theorem planeTaken_apply (k : Fin k0_t2_loop.trips) (par : Fin 2) (c : Fin 8) (g : Fin 8) (l : Fin 128) :
    planeTaken (a10 := a10) f k par c (ix2 g l) = a10.view.read (Elt Ideal) f (ix4 c ⟨8 * k.val + g.val, by have := trip2_lt k; omega⟩ par
      ⟨16 * (l.val % 8) + l.val / 8, by omega⟩) := by
  unfold planeTaken
  rw [takeOut_apply par (fun par => planeIn (a10 := a10) f k par c)]
  exact planeIn_apply f k par c g _

/-- An output block as one array over its planes: column `j` is lane `j / 8` of plane `j % 8`. -/
def emitAt (P : S8x576x2x128.Idx → EReal) (y : S1152x1024.Idx) : Elt Ideal .bf16 :=
  P (ix4 ⟨(y 1).val % 8, Nat.mod_lt _ (by omega)⟩
    ⟨(y 0).val / 2, by have h : (y 0).val < 1152 := (y 0).isLt; omega⟩ ⟨(y 0).val % 2, Nat.mod_lt _ (by omega)⟩
    ⟨(y 1).val / 8, by have h : (y 1).val < 1024 := (y 1).isLt; omega⟩)

theorem out_value (k : Fin k0_t2_loop.trips) (o : Fin 8) (R : Fin 16) (l : Fin 128) :
    interleaveRows S16x128 (net lane (planeTaken (a10 := a10) f k 0) o) (net lane (planeTaken (a10 := a10) f k 1) o) bitcasts_S16x128_w16_S8x128_w32 (ix2 R l)
      = emitAt (a10.view.read (Elt Ideal) f) (ix2 ⟨16 * k.val + R.val, by have := trip2_lt k; omega⟩ ⟨128 * o.val + l.val, by omega⟩) := by
  have hk := trip2_lt k
  obtain ⟨g, p, hR⟩ : ∃ (g : Fin 8) (p : Fin 2), R = ⟨2 * g.val + p.val, by omega⟩ :=
    ⟨⟨R.val / 2, by omega⟩, ⟨R.val % 2, by omega⟩, Fin.ext (show R.val = 2 * (R.val / 2) + R.val % 2 by omega)⟩
  subst hR
  have hp : interleaveRows S16x128 (net lane (planeTaken (a10 := a10) f k 0) o) (net lane (planeTaken (a10 := a10) f k 1) o) bitcasts_S16x128_w16_S8x128_w32
      (ix2 ⟨2 * g.val + p.val, by omega⟩ l) = net lane (planeTaken (a10 := a10) f k p) o (ix2 g l) := by
    fin_cases p
    · pointwise
      rw [if_pos (show 2 * g.val % 2 = 0 by omega)]
      exact congrArg (fun z => net lane (planeTaken (a10 := a10) f k 0) o (ix2 z l)) (Fin.ext (show 2 * g.val / 2 = g.val by omega))
    · pointwise
      rw [if_neg (show ¬ (2 * g.val + 1) % 2 = 0 by omega)]
      exact congrArg (fun z => net lane (planeTaken (a10 := a10) f k 1) o (ix2 z l)) (Fin.ext (show (2 * g.val + 1) / 2 = g.val by omega))
  refine hp.trans ((net_apply _ o g l).trans ((planeTaken_apply f k p _ g _).trans ?_))
  refine congrArg (a10.view.read (Elt Ideal) f) ?_
  have e0 : (128 * o.val + l.val) % 8 = l.val % 8 := by omega
  have e1 : (16 * k.val + (2 * g.val + p.val)) / 2 = 8 * k.val + g.val := by omega
  have e2 : (16 * k.val + (2 * g.val + p.val)) % 2 = p.val := by omega
  have e3 : (128 * o.val + l.val) / 8 = 16 * ((l.val / 8 * 8 + o.val) % 8) + (l.val / 8 * 8 + o.val) / 8 := by omega
  exact congr (congr (congr (congrArg ix4 (Fin.ext e0.symm)) (Fin.ext e1.symm)) (Fin.ext e2.symm)) (Fin.ext e3.symm)

theorem mem_outList (k : Fin k0_t2_loop.trips) (P : View.Piece (Elt Ideal) S1152x1024 .bf16) :
    P ∈ outList (a10 := a10) lane f k ↔ ∃ o, P = outPiece (a10 := a10) lane f k o := by
  unfold outList
  simp only [List.mem_map]
  constructor
  · rintro ⟨o, -, rfl⟩; exact ⟨o, rfl⟩
  · rintro ⟨o, rfl⟩
    exact ⟨o, by revert o; decide, rfl⟩

end

variable (𝒱 : Variants) (c : Dev nD) (bd : Option 𝒱.V) (i : grid0.Coords) (arg2 : Memref sig .tc .vmem S1152x6144 .bf16) (harg2 : arg2.IsWhole)
    (arg3 : Memref sig .tc .vmem S6144x128 .i32) (harg3 : arg3.IsWhole) (arg4 : Memref sig .tc .vmem S48x1024 .bf16) (harg4 : arg4.IsWhole)
    (arg5 : Memref sig .tc .vmem S6144x128 .i32) (harg5 : arg5.IsWhole) (arg6 : Memref sig .tc .vmem S48x1024 .bf16) (harg6 : arg6.IsWhole)
    (arg7 : Memref sig .tc .vmem S1152x1024 .bf16) (harg7 : arg7.IsWhole) (arg8 : Memref sig .tc .vmem S2x6144x256 .bf16) (harg8 : arg8.IsWhole)
    (arg9 : Memref sig .tc .vmem S2x8x48x2x128 .bf16) (harg9 : arg9.IsWhole) (arg10 : Memref sig .tc .vmem S8x576x2x128 .bf16) (harg10 : arg10.IsWhole)

theorem mem_pb2 (h2 : k0_cond2 i = 1#1) (f10 : BufTy.Contents (Elt Ideal) arg10.view.ty) (P : View.Piece (Elt Ideal) S1152x1024 .bf16) (n : Nat)
    (hn : n ≤ k0_t2_loop.trips) :
    P ∈ pb_k0_t2 (F := Ideal) 𝒱 c bd i arg2 harg2 arg3 harg3 arg4 harg4 arg5 harg5 arg6 harg6 arg7 harg7 arg8 harg8 arg9 harg9 arg10 harg10 lane h2 f10 n
      ↔ ∃ k : Fin k0_t2_loop.trips, k.val < n ∧ ∃ o, P = outPiece (a10 := arg10) lane f10 k o := by
  induction n with
  | zero => exact ⟨fun h => absurd h List.not_mem_nil, fun ⟨_, h, _⟩ => absurd h (Nat.not_lt_zero _)⟩
  | succ n ih =>
    have e := pb_k0_t2_succ (F := Ideal) 𝒱 c bd i arg2 harg2 arg3 harg3 arg4 harg4 arg5 harg5 arg6 harg6 arg7 harg7 arg8 harg8 arg9 harg9 arg10 harg10 lane h2 f10 ⟨n, hn⟩
    rw [show n + 1 = (⟨n, hn⟩ : Fin k0_t2_loop.trips).val + 1 from rfl, e, List.mem_append, trip2_eq, mem_outList, ih (by omega)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.1 hk with hk | hk
      · exact Or.inr ⟨k, hk, h⟩
      · obtain rfl : k = ⟨n, hn⟩ := Fin.ext hk
        exact Or.inl h

theorem outEmb (k : Fin k0_t2_loop.trips) (o : Fin 8) (x0 : Fin 16) (x1 : Fin 128) :
    (Rect.unit (s := S1152x1024) (outOff k o) S16x128.size (outOff_inb k o)).emb (ix2 x0 x1)
      = ix2 ⟨16 * k.val + x0.val, by have := trip2_lt k; omega⟩ ⟨128 * o.val + x1.val, by omega⟩ :=
  Rect.emb_eq_of_coords _ _ _ fun a => by
    fin_cases a
    · show 16 * k.val + x0.val = outOff k o 0 + 1 * x0.val; rw [outOff_eq]; show _ = 16 * k.val + 1 * x0.val; omega
    · show 128 * o.val + x1.val = outOff k o 1 + 1 * x1.val; rw [outOff_eq]; show _ = 128 * o.val + 1 * x1.val; omega

/-- The output block after all the trips. -/
theorem emit_holds (h2 : k0_cond2 i = 1#1) (f10 : BufTy.Contents (Elt Ideal) arg10.view.ty) (f7 : BufTy.Contents (Elt Ideal) arg7.view.ty) :
    arg7.view.read (Elt Ideal) (arg7.view.writes (Elt Ideal) f7 (pb_k0_t2 (F := Ideal) 𝒱 c bd i arg2 harg2 arg3 harg3 arg4 harg4 arg5 harg5 arg6 harg6 arg7 harg7
        arg8 harg8 arg9 harg9 arg10 harg10 lane h2 f10 k0_t2_loop.trips))
      = emitAt (arg10.view.read (Elt Ideal) f10) := by
  funext y
  idx_vars y
  refine View.read_writes_apply_of_pieces arg7.view f7 (emitAt (arg10.view.read (Elt Ideal) f10)) _ ?_ _ ?_
  · intro P hP
    obtain ⟨k, -, o, rfl⟩ := (mem_pb2 _ _ _ _ _ _ _ _ _ _ _ _ _ _ _ _ _ _ _ _ _ _ _ _ P _ (le_refl _)).1 hP
    show ∀ x : S16x128.Idx, _
    intro x
    idx_vars x
    refine Eq.trans ?_ (congrArg (emitAt (arg10.view.read (Elt Ideal) f10)) (outEmb k o x0 x1).symm)
    exact out_value f10 k o x0 x1
  · refine ⟨outPiece (a10 := arg10) lane f10 ⟨y0.val / 16, by rw [trips2_eq]; omega⟩ ⟨y1.val / 128, by omega⟩,
      (mem_pb2 _ _ _ _ _ _ _ _ _ _ _ _ _ _ _ _ _ _ _ _ _ _ _ _ _ _ (le_refl _)).2 ⟨_, Fin.isLt _, _, rfl⟩, ?_⟩
    unfold outPiece
    rw [Rect.mem_set_unit, outOff_eq]
    intro a
    fin_cases a
    · show 16 * (y0.val / 16) ≤ y0.val ∧ y0.val < 16 * (y0.val / 16) + 16; omega
    · show 128 * (y1.val / 128) ≤ y1.val ∧ y1.val < 128 * (y1.val / 128) + 128; omega

end Cert.KernelIdeal.Hand

end
-- ==== Proof.KernelScales.lean ====
/-
  The unpacked scales at an index. Hand-written.
-/
module

public import proofs.«01_k».proof.Proof.KernelNet

@[expose] public section

set_option maxRecDepth 16384

noncomputable section

namespace Cert.KernelIdeal.Hand

open Cert.KernelIdeal Cert.KernelIdeal.Gen
open Idealize.ShloMosaic Idealize.ShloMosaic.TcCoe

theorem scaleIn_apply {a : Memref sig .tc .vmem S48x1024 .bf16} (f : BufTy.Contents (Elt Ideal) a.view.ty) (r : Fin 3) (par : Fin 2) (o : Fin 8)
    (g : Fin 8) (l : Fin 128) :
    scaleIn (a := a) f r par o (ix2 g l) = a.view.read (Elt Ideal) f (ix2 ⟨16 * r.val + 2 * g.val + par.val, by omega⟩ ⟨128 * o.val + l.val, by omega⟩) := by
  pointwise [scaleIn, half, View.readAt_apply]
  exact congrArg (fun z => a.view.read (Elt Ideal) f (ix2 z _)) (Fin.ext (Nat.add_assoc _ _ _).symm)

/-- Plane `c`, lane `l` of the unpacked scales is column `8 l + c`. -/
theorem scaleOut_apply {a : Memref sig .tc .vmem S48x1024 .bf16} (f : BufTy.Contents (Elt Ideal) a.view.ty) (r : Fin 3) (c : Fin 8) (par : Fin 2)
    (g : Fin 8) (l : Fin 128) :
    scaleOut (a := a) lane f r c par (ix2 g l)
      = a.view.read (Elt Ideal) f (ix2 ⟨16 * r.val + 2 * g.val + par.val, by omega⟩ ⟨8 * l.val + c.val, by omega⟩) := by
  unfold scaleOut
  rw [takeIn_apply par (fun par => net lane (scaleIn (a := a) f r par) c)]
  simp only [net_apply, scaleIn_apply]
  refine congrArg (fun z => a.view.read (Elt Ideal) f (ix2 _ z)) (Fin.ext ?_)
  show 128 * ((8 * (l.val % 16) + l.val / 16) % 8) + ((8 * (l.val % 16) + l.val / 16) / 8 * 8 + c.val) = 8 * l.val + c.val
  omega

theorem bothHalves_apply (x : FVec Ideal S8x128 .bf16) (g : Fin 8) (p : Fin 2) (l : Fin 128)  (z z' : Fin 1) :
    bothHalves x (ix5 z z' g p l) = x (ix2 g l) := by
  fin_cases p <;> pointwise [bothHalves]

/-- One of two things by a projection's number. -/
def two {α : Type} (x y : α) (q : Fin 2) : α := match q with | 0 => x | 1 => y

/-- The unpacked scales: both halves of the pair at row `g`, lane `l` of plane `c` of projection `q` are the scale of group `g` at
    column `8 l + c`. -/
def ScalesHold {a9 : Memref sig .tc .vmem S2x8x48x2x128 .bf16} (f9 : BufTy.Contents (Elt Ideal) a9.view.ty) (S : Fin 2 → S48x1024.Idx → Elt Ideal .bf16) : Prop :=
  ∀ (q : Fin 2) (c : Fin 8) (g : Fin 48) (p : Fin 2) (l : Fin 128),
    a9.view.read (Elt Ideal) f9 (ix5 q c g p l) = S q (ix2 g ⟨8 * l.val + c.val, by omega⟩)

/-- The unpacked scales as one array. -/
def scaleAt (S : Fin 2 → S48x1024.Idx → Elt Ideal .bf16) (y : S2x8x48x2x128.Idx) : Elt Ideal .bf16 :=
  S (y 0) (ix2 (y 2) ⟨8 * (y 4).val + (y 1).val, by
    have h4 : (y 4).val < 128 := (y 4).isLt
    have h1 : (y 1).val < 8 := (y 1).isLt
    omega⟩)

theorem mem_scaleList {F : FTy → Type} [FloatOps F] {a4 a6 : Memref sig .tc .vmem S48x1024 .bf16} (v0 : IVec S8x128 32) (f4 : BufTy.Contents (Elt F) a4.view.ty)
    (f6 : BufTy.Contents (Elt F) a6.view.ty) (p : View.Piece (Elt F) S2x8x48x2x128 .bf16) :
    p ∈ scaleList (a4 := a4) (a6 := a6) v0 f4 f6 ↔ ∃ q r c par, p = scalePiece (a4 := a4) (a6 := a6) v0 f4 f6 q r c par := by
  unfold scaleList
  simp only [List.mem_flatMap, List.mem_map]
  constructor
  · rintro ⟨q, -, r, -, c, -, par, -, rfl⟩; exact ⟨q, r, c, par, rfl⟩
  · rintro ⟨q, r, c, par, rfl⟩
    exact ⟨q, by revert q; decide, r, by revert r; decide, c, by revert c; decide, par, by revert par; decide, rfl⟩

theorem scales_hold {a4 a6 : Memref sig .tc .vmem S48x1024 .bf16} {a9 : Memref sig .tc .vmem S2x8x48x2x128 .bf16}
    (f4 : BufTy.Contents (Elt Ideal) a4.view.ty) (f6 : BufTy.Contents (Elt Ideal) a6.view.ty) (f9 : BufTy.Contents (Elt Ideal) a9.view.ty) :
    ScalesHold (a9 := a9) (a9.view.writes (Elt Ideal) f9 (scaleList (a4 := a4) (a6 := a6) lane f4 f6))
      (two (a4.view.read (Elt Ideal) f4) (a6.view.read (Elt Ideal) f6)) := by
  intro q c g p l
  refine (View.read_writes_apply_of_pieces a9.view f9
    (scaleAt (two (a4.view.read (Elt Ideal) f4) (a6.view.read (Elt Ideal) f6))) _ ?_ _ ?_).trans rfl
  · intro P hP
    obtain ⟨q, r, c, par, rfl⟩ := (mem_scaleList _ _ _ _).1 hP
    show ∀ x : S1x1x8x2x128.Idx, _
    intro x
    idx_vars x
    clear g p l
    rename' x2 => g, x3 => p, x4 => l, x0 => z, x1 => z'
    have e : (scaleRect q r c par).emb (ix5 z z' g p l) = ix5 q c ⟨16 * r.val + 2 * g.val + par.val, by omega⟩ p l :=
      Rect.emb_eq_of_coords _ _ _ fun a => by
        fin_cases a
        · show q.val = q.val + 1 * z.val; omega
        · show c.val = c.val + 1 * z'.val; omega
        · show 16 * r.val + 2 * g.val + par.val = 16 * r.val + par.val + 2 * g.val; omega
        · show p.val = 0 + 1 * p.val; omega
        · show l.val = 0 + 1 * l.val; omega
    refine Eq.trans ?_ (congrArg (scaleAt _) e.symm)
    refine (bothHalves_apply _ g p l z z').trans ?_
    fin_cases q
    · exact scaleOut_apply f4 r c par g l
    · exact scaleOut_apply f6 r c par g l
  · refine ⟨scalePiece (a4 := a4) (a6 := a6) lane f4 f6 q ⟨g.val / 16, by omega⟩ c ⟨g.val % 2, by omega⟩, (mem_scaleList _ _ _ _).2 ⟨_, _, _, _, rfl⟩, ?_⟩
    rw [LoadRect.mem_set]
    intro a
    fin_cases a
    · exact ⟨0, Nat.one_pos, show q.val = q.val + 1 * 0 by omega⟩
    · exact ⟨0, Nat.one_pos, show c.val = c.val + 1 * 0 by omega⟩
    · exact ⟨g.val % 16 / 2, show g.val % 16 / 2 < 8 by omega, show g.val = 16 * (g.val / 16) + g.val % 2 + 2 * (g.val % 16 / 2) by omega⟩
    · exact ⟨p.val, p.isLt, show p.val = 0 + 1 * p.val by omega⟩
    · exact ⟨l.val, l.isLt, show l.val = 0 + 1 * l.val by omega⟩

end Cert.KernelIdeal.Hand

end
-- ==== Proof.KernelWords.lean ====
/-
  The words of the codes: a nibble of a word, and the number the kernel and the reference each make of it. Hand-written.
-/
module

public import Idealize.ShloMosaic.Lib.Pointwise

@[expose] public section

set_option maxRecDepth 16384

noncomputable section

namespace Cert.Hand

open Idealize.ShloMosaic

/-- Nibble `t` of a word. -/
def nib (w : BitVec 32) (t : Nat) : Fin 16 := ⟨(w.toNat >>> (4 * t)) % 16, by omega⟩

/-- The code it stands for: the nibble less eight. -/
def code (n : Fin 16) : EReal := (((n.val : ℝ) - 8 : ℝ) : EReal)

/-- Half `p` of the word the kernel builds from an even row's word `e` and the odd row's `o`: nibble `b` of the half under the
    exponent bits `0x4300`. -/
theorem half_word (e o : BitVec 32) (b p : Fin 2) :
    (((((e &&& 65535#32) ||| (o <<< 16)) >>> (4 * b.val)) &&& 983055#32) ||| 1124090624#32).extractLsb' (16 * p.val) 16
      = 0x4300#16 ||| (((if p.val = 0 then e else o) >>> (4 * b.val)) &&& 15#32).setWidth 16 := by
  apply BitVec.eq_of_getLsbD_eq
  intro j hj
  fin_cases p <;> fin_cases b <;> interval_cases j <;> simp

theorem nib_word (w : BitVec 32) (t : Nat) : (w >>> (4 * t)) &&& 15#32 = BitVec.ofNat 32 (nib w t).val := by
  apply BitVec.eq_of_toNat_eq
  have h : (15#32).toNat = 2 ^ 4 - 1 := rfl
  rw [BitVec.toNat_and, BitVec.toNat_ushiftRight, h, Nat.and_two_pow_sub_one_eq_mod, BitVec.toNat_ofNat]
  show w.toNat >>> (4 * t) % 16 = w.toNat >>> (4 * t) % 16 % 2 ^ 32
  omega

/-- A shift by eight times the step, then by four times the half. -/
theorem nib_word_two (w : BitVec 32) (a b : Nat) : ((w >>> (8 * a)) >>> (4 * b)) &&& 15#32 = BitVec.ofNat 32 (nib w (2 * a + b)).val := by
  rw [← BitVec.shiftRight_add, show 8 * a + 4 * b = 4 * (2 * a + b) by omega, nib_word]

/-- The signed shift keeps a nibble. -/
theorem nib_word_signed (w : BitVec 32) (t : Fin 8) : (w.sshiftRight (4 * t.val)) &&& 15#32 = BitVec.ofNat 32 (nib w t.val).val := by
  rw [← nib_word]
  apply BitVec.eq_of_getLsbD_eq
  intro j hj
  fin_cases t <;> interval_cases j <;> simp [BitVec.getElem_sshiftRight]

/-- The number the kernel makes of a nibble. -/
theorem kernel_code (n : Fin 16) :
    Ideal.ofBits .bf16 (0x4300#16 ||| (BitVec.ofNat 32 n.val).setWidth 16) - Ideal.ofBits .bf16 0x4308#16 = code n := by
  unfold code
  fin_cases n <;> simp [Ideal.ofBits, Ideal.ieee, -EReal.coe_mul, ← EReal.coe_sub] <;> norm_num

/-- The number the reference makes of it. -/
theorem reference_code (n : Fin 16) :
    (((BitVec.ofNat 32 n.val).toInt : ℝ) : EReal) - Ideal.ofBits .bf16 0x4100#16 = code n := by
  have h8 : Ideal.ofBits .bf16 0x4100#16 = ((8 : ℝ) : EReal) := by
    simp [Ideal.ofBits, Ideal.ieee, -EReal.coe_mul]; norm_num
  have hn : (BitVec.ofNat 32 n.val).toInt = (n.val : ℤ) := by revert n; decide +kernel
  rw [h8, hn, ← EReal.coe_sub]; rfl

end Cert.Hand

end
-- ==== Proof.KernelWeights.lean ====
/-
  The unpacked weights at an index. Hand-written.
-/
module

public import proofs.«01_k».proof.Proof.KernelOffsets
public import proofs.«01_k».proof.Proof.KernelScales
public import proofs.«01_k».proof.Proof.KernelTrips
public import proofs.«01_k».proof.Proof.KernelWords
public import Idealize.ShloMosaic.Lib.BitcastPair

@[expose] public section

set_option maxRecDepth 16384

noncomputable section

namespace Cert.KernelIdeal.Hand

open Cert.Hand Cert.KernelIdeal Cert.KernelIdeal.Gen
open Idealize.ShloMosaic Idealize.ShloMosaic.TcCoe

/-- The weight of nibble `t` of the word at row `k`, lane `l`: its code times the scale of the row's group at column
    `8 l + c`. -/
def weight (t : Nat) (c : Fin 8) (C : S6144x128.Idx → BitVec 32) (S : S48x1024.Idx → EReal) (k : Fin 6144) (l : Fin 128) : EReal :=
  code (nib (C (ix2 k l)) t) * S (ix2 ⟨k.val / 128, by omega⟩ ⟨8 * l.val + c.val, by omega⟩)

theorem trip1_lt (k : Fin k0_t1_loop.trips) : k.val < 48 := Nat.lt_of_lt_of_eq k.isLt trips1_eq

theorem plane_lt (a b : Nat) (ha : a < 4) (hb : b < 2) : plane a b < 8 := by unfold plane; omega

/-- The plane of step `a`'s nibble `b`. -/
def planeOf (a : Fin 4) (b : Fin 2) : Fin 8 := ⟨plane a.val b.val, plane_lt _ _ a.isLt b.isLt⟩

theorem dequant_apply (e o : IVec S8x128 32) (s : FVec Ideal S16x128 .bf16) (b : Fin 2) (r : Fin 8) (p : Fin 2) (l : Fin 128) :
    dequantBlock (both e o) s b (ix2 ⟨2 * r.val + p.val, by omega⟩ l)
      = (Ideal.ofBits .bf16 (0x4300#16 ||| (((if p.val = 0 then e (ix2 r l) else o (ix2 r l)) >>> (4 * b.val)) &&& 15#32).setWidth 16)
          - Ideal.ofBits .bf16 0x4308#16) * s (ix2 ⟨2 * r.val + p.val, by omega⟩ l) := by
  have hw : bitcast S16x128 16 (ori (andi (shrui (both e o) (broadcast S8x128 (BitVec.ofNat 32 (4 * b.val)))) (broadcast S8x128 983055#32)) (broadcast S8x128 1124090624#32))
      bitcasts_S8x128_w32_S16x128_w16 (ix2 ⟨2 * r.val + p.val, by omega⟩ l)
      = 0x4300#16 ||| (((if p.val = 0 then e (ix2 r l) else o (ix2 r l)) >>> (4 * b.val)) &&& 15#32).setWidth 16 := by
    rw [Idealize.ShloMosaic.bitcast_32_16]
    have hlt : 2 * r.val + p.val < 16 := by omega
    have hrow : S16x128.row (ix2 ⟨2 * r.val + p.val, hlt⟩ l : S16x128.Idx) = 2 * r.val + p.val := rfl
    have h2 : (2 * r.val + p.val) / 2 = r.val := by omega
    have h3 : (2 * r.val + p.val) % 2 = p.val := by omega
    have hsrc : ∀ hh, bitcasts_S8x128_w32_S16x128_w16.srcIdx (ix2 ⟨2 * r.val + p.val, hlt⟩ l : S16x128.Idx)
        (S16x128.row (ix2 ⟨2 * r.val + p.val, hlt⟩ l : S16x128.Idx) / 2) hh = ix2 r l := by
      intro hh
      funext a
      fin_cases a
      · exact Fin.ext h2
      · rfl
    rw [hsrc, hrow, h3, ← half_word]
    fin_cases b <;> rfl
  pointwise [dequantBlock]
  exact congrArg (fun z => (Ideal.ofBits .bf16 z - _) * _) hw

theorem codeRows_apply {a : Memref sig .tc .vmem S6144x128 .i32} (A : Fin 4) (f : BufTy.Contents (Elt Ideal) a.view.ty)
    (k : Fin k0_t1_loop.trips) (r : Fin 8) (par : Fin 2) (g : Fin 8) (l : Fin 128) :
    codeRows (a := a) (BitVec.ofNat 32 A.val) f k r par (ix2 g l)
      = (a.view.read (Elt Ideal) f (ix2 ⟨128 * k.val + 16 * r.val + 2 * g.val + par.val, by
          have := k.isLt; have := k0_t1_abs.2.1; omega⟩ l) : BitVec 32) >>> (8 * A.val) := by
  have hs : ∀ (w w' : BitVec 32) (A : Fin 4), w = w' → IntOp.shrui ArithUnit.vector w (Scalar.muli 8#32 (BitVec.ofNat 32 A.val)) = w' >>> (8 * A.val) := by
    intro w w' A e; subst e; fin_cases A <;> rfl
  fin_cases par
  · pointwise [codeRows, View.readAt_apply]
    refine hs _ _ A (congrArg (a.view.read (Elt Ideal) f) (congr (congrArg ix2 (Fin.ext ?_)) (Fin.ext ?_)))
    · show k0_off2 k (BitVec.ofNat 32 (16 * r.val)) 0 + 2 * g.val = _
      rw [off2_eq]; show 128 * k.val + 16 * r.val + 2 * g.val = _; rfl
    · show k0_off2 k (BitVec.ofNat 32 (16 * r.val)) 1 + l.val = _
      rw [off2_eq]; show 0 + l.val = _; omega
  · pointwise [codeRows, View.readAt_apply]
    refine hs _ _ A (congrArg (a.view.read (Elt Ideal) f) (congr (congrArg ix2 (Fin.ext ?_)) (Fin.ext ?_)))
    · show k0_off3 k (BitVec.ofNat 32 (16 * r.val)) 0 + 2 * g.val = 128 * k.val + 16 * r.val + 2 * g.val + 1
      rw [off3_eq]; show 128 * k.val + 16 * r.val + 1 + 2 * g.val = _; omega
    · show k0_off3 k (BitVec.ofNat 32 (16 * r.val)) 1 + l.val = _
      rw [off3_eq]; show 0 + l.val = _; omega

/-- The row of scales spread over sixteen rows: at any row it is one of the two halves of the pair. -/
theorem spread_apply (x : Vec Ideal S1x1x1x2x128 .bf16) (R : Fin 16) (l : Fin 128) :
    ∃ p : Fin 2, k0_pay685 x (ix2 R l) = x (ix5 0 0 0 p l) := by
  pointwise [k0_pay685]
  split_ifs
  all_goals first | exact ⟨0, rfl⟩ | exact ⟨1, rfl⟩

theorem scaleRow_apply {a9 : Memref sig .tc .vmem S2x8x48x2x128 .bf16} (i : grid0.Coords) (f : BufTy.Contents (Elt Ideal) a9.view.ty)
    (k : Fin k0_t1_loop.trips) (b : Fin 2) (q : Fin 2) (R : Fin 16) (l : Fin 128) (S : Fin 2 → S48x1024.Idx → Elt Ideal .bf16)
    (h : ScalesHold (a9 := a9) f S) : scaleRow (a9 := a9) i f k b q (ix2 R l)
      = S q (ix2 ⟨k.val, trip1_lt k⟩ ⟨8 * l.val + (planeOf (i 1) b).val, by omega⟩) := by
  have leaf : ∀ y : S2x8x48x2x128.Idx, (y 0).val = q.val → (y 1).val = (planeOf (i 1) b).val → (y 2).val = k.val → (y 4).val = l.val →
      a9.view.read (Elt Ideal) f y = S q (ix2 ⟨k.val, trip1_lt k⟩ ⟨8 * l.val + (planeOf (i 1) b).val, by omega⟩) := by
    intro y h0 h1 h2 h4
    idx_vars y
    rw [h y0 y1 y2 y3 y4]
    obtain rfl : y0 = q := Fin.ext h0
    obtain rfl : y1 = planeOf (i 1) b := Fin.ext h1
    obtain rfl : y4 = l := Fin.ext h4
    exact congrArg (fun z => S y0 (ix2 z _)) (Fin.ext h2)
  have hp : ∀ p : Fin 2, (0 + 1 * p.val) = p.val := by omega
  fin_cases q
  · obtain ⟨p, e⟩ := spread_apply (a9.view.readAt (Elt Ideal) (Rect.unit (s := S2x8x48x2x128) (k0_off1 i k (BitVec.ofNat 32 b.val)) S1x1x1x2x128.size
      (k0_off1_inb i k b)).toLoadRect f) R l
    refine Eq.trans e (leaf _ ?_ ?_ ?_ ?_)
    · show k0_off1 i k (BitVec.ofNat 32 b.val) 0 + 1 * 0 = 0; rw [off1_eq]; rfl
    · show k0_off1 i k (BitVec.ofNat 32 b.val) 1 + 1 * 0 = _; rw [off1_eq]; rfl
    · show k0_off1 i k (BitVec.ofNat 32 b.val) 2 + 1 * 0 = _; rw [off1_eq]; rfl
    · show k0_off1 i k (BitVec.ofNat 32 b.val) 4 + 1 * l.val = _; rw [off1_eq]; show 0 + 1 * l.val = _; omega
  · obtain ⟨p, e⟩ := spread_apply (a9.view.readAt (Elt Ideal) (Rect.unit (s := S2x8x48x2x128) (k0_off6 i k (BitVec.ofNat 32 b.val)) S1x1x1x2x128.size
      (k0_off6_inb i k b)).toLoadRect f) R l
    refine Eq.trans e (leaf _ ?_ ?_ ?_ ?_)
    · show k0_off6 i k (BitVec.ofNat 32 b.val) 0 + 1 * 0 = 1; rw [off6_eq]; rfl
    · show k0_off6 i k (BitVec.ofNat 32 b.val) 1 + 1 * 0 = _; rw [off6_eq]; rfl
    · show k0_off6 i k (BitVec.ofNat 32 b.val) 2 + 1 * 0 = _; rw [off6_eq]; rfl
    · show k0_off6 i k (BitVec.ofNat 32 b.val) 4 + 1 * l.val = _; rw [off6_eq]; show 0 + 1 * l.val = _; omega

/-- The weights of one step as one array. -/
def weightAt (a : Fin 4) (C : Fin 2 → S6144x128.Idx → BitVec 32) (S : Fin 2 → S48x1024.Idx → EReal) (q : Fin 2) (k : Fin 6144) (j : Fin 256) : EReal :=
  weight (2 * a.val + j.val / 128) (planeOf a ⟨j.val / 128, by omega⟩) (C q) (S q) k ⟨j.val % 128, by omega⟩

section

variable {a3 a5 : Memref sig .tc .vmem S6144x128 .i32} {a9 : Memref sig .tc .vmem S2x8x48x2x128 .bf16} (i : grid0.Coords)
  (f3 : BufTy.Contents (Elt Ideal) a3.view.ty) (f5 : BufTy.Contents (Elt Ideal) a5.view.ty) (f9 : BufTy.Contents (Elt Ideal) a9.view.ty)
  (S : Fin 2 → S48x1024.Idx → Elt Ideal .bf16)

/-- What one store of the dequantization holds. -/
theorem block_apply (h : ScalesHold (a9 := a9) f9 S) (k : Fin k0_t1_loop.trips) (q : Fin 2) (r : Fin 8) (b : Fin 2) (R : Fin 16) (l : Fin 128) :
    dequantBlock (match q with
      | 0 => both (codeRows (a := a3) (BitVec.ofNat 32 (i 1).val) f3 k r 0) (codeRows (a := a3) (BitVec.ofNat 32 (i 1).val) f3 k r 1)
      | 1 => both (codeRows (a := a5) (BitVec.ofNat 32 (i 1).val) f5 k r 0) (codeRows (a := a5) (BitVec.ofNat 32 (i 1).val) f5 k r 1))
      (scaleRow (a9 := a9) i f9 k b q) b (ix2 R l)
      = weightAt (i 1) (two (a3.view.read (Elt Ideal) f3) (a5.view.read (Elt Ideal) f5)) S q
          ⟨128 * k.val + 16 * r.val + R.val, by have := trip1_lt k; omega⟩ ⟨128 * b.val + l.val, by omega⟩ := by
  have hk := trip1_lt k
  obtain ⟨g, p, hR⟩ : ∃ (g : Fin 8) (p : Fin 2), R = ⟨2 * g.val + p.val, by omega⟩ :=
    ⟨⟨R.val / 2, by omega⟩, ⟨R.val % 2, by omega⟩, Fin.ext (show R.val = 2 * (R.val / 2) + R.val % 2 by omega)⟩
  subst hR
  have main : ∀ {a : Memref sig .tc .vmem S6144x128 .i32} (f : BufTy.Contents (Elt Ideal) a.view.ty),
      dequantBlock (both (codeRows (a := a) (BitVec.ofNat 32 (i 1).val) f k r 0) (codeRows (a := a) (BitVec.ofNat 32 (i 1).val) f k r 1))
        (scaleRow (a9 := a9) i f9 k b q) b (ix2 ⟨2 * g.val + p.val, by omega⟩ l)
      = weight (2 * (i 1).val + b.val) (planeOf (i 1) b) (a.view.read (Elt Ideal) f) (S q) ⟨128 * k.val + 16 * r.val + (2 * g.val + p.val), by omega⟩ l := by
    intro a f
    have hrow : (if p.val = 0 then codeRows (a := a) (BitVec.ofNat 32 (i 1).val) f k r 0 (ix2 g l) else codeRows (a := a) (BitVec.ofNat 32 (i 1).val) f k r 1 (ix2 g l))
        = (a.view.read (Elt Ideal) f (ix2 ⟨128 * k.val + 16 * r.val + (2 * g.val + p.val), by omega⟩ l) : BitVec 32) >>> (8 * (i 1).val) := by
      fin_cases p
      · exact codeRows_apply (i 1) f k r 0 g l
      · exact codeRows_apply (i 1) f k r 1 g l
    rw [dequant_apply, hrow, nib_word_two, kernel_code, scaleRow_apply i f9 k b q _ l S h]
    unfold weight
    exact congrArg (fun z => _ * S q (ix2 z _)) (Fin.ext (show k.val = (128 * k.val + 16 * r.val + (2 * g.val + p.val)) / 128 by omega))
  have fin : ∀ (C : S6144x128.Idx → BitVec 32), weight (2 * (i 1).val + b.val) (planeOf (i 1) b) C (S q) ⟨128 * k.val + 16 * r.val + (2 * g.val + p.val), by omega⟩ l
      = weight (2 * (i 1).val + (128 * b.val + l.val) / 128) (planeOf (i 1) ⟨(128 * b.val + l.val) / 128, by omega⟩) C (S q)
        ⟨128 * k.val + 16 * r.val + (2 * g.val + p.val), by omega⟩ ⟨(128 * b.val + l.val) % 128, by omega⟩ := by
    intro C
    have e1 : (⟨(128 * b.val + l.val) / 128, by omega⟩ : Fin 2) = b := Fin.ext (show (128 * b.val + l.val) / 128 = b.val by omega)
    have e2 : (⟨(128 * b.val + l.val) % 128, by omega⟩ : Fin 128) = l := Fin.ext (show (128 * b.val + l.val) % 128 = l.val by omega)
    have e3 : (128 * b.val + l.val) / 128 = b.val := by omega
    rw [e1, e2, e3]
  fin_cases q
  · exact (main f3).trans (fin _)
  · exact (main f5).trans (fin _)

theorem mem_wList (arg1 : BitVec 32) (k : Fin k0_t1_loop.trips) (P : View.Piece (Elt Ideal) S2x6144x256 .bf16) :
    P ∈ wList (a3 := a3) (a5 := a5) (a9 := a9) i arg1 f3 f5 f9 k ↔ ∃ q r b, P = wPiece (a3 := a3) (a5 := a5) (a9 := a9) i arg1 f3 f5 f9 k q r b := by
  unfold wList
  simp only [List.mem_flatMap, List.mem_map]
  constructor
  · rintro ⟨q, -, r, -, b, -, rfl⟩; exact ⟨q, r, b, rfl⟩
  · rintro ⟨q, r, b, rfl⟩
    exact ⟨q, by revert q; decide, r, by revert r; decide, b, by revert b; decide, rfl⟩

end

/-- The unpacked weights: row `k`, column `j` of projection `q`. -/
def WeightsHold {a8 : Memref sig .tc .vmem S2x6144x256 .bf16} (f8 : BufTy.Contents (Elt Ideal) a8.view.ty) (W : Fin 2 → Fin 6144 → Fin 256 → EReal) : Prop :=
  ∀ (q : Fin 2) (k : Fin 6144) (j : Fin 256), a8.view.read (Elt Ideal) f8 (ix3 q k j) = W q k j

section

variable (𝒱 : Variants) (c : Dev nD) (bd : Option 𝒱.V) (i : grid0.Coords) (arg2 : Memref sig .tc .vmem S1152x6144 .bf16) (harg2 : arg2.IsWhole)
    (arg3 : Memref sig .tc .vmem S6144x128 .i32) (harg3 : arg3.IsWhole) (arg4 : Memref sig .tc .vmem S48x1024 .bf16) (harg4 : arg4.IsWhole)
    (arg5 : Memref sig .tc .vmem S6144x128 .i32) (harg5 : arg5.IsWhole) (arg6 : Memref sig .tc .vmem S48x1024 .bf16) (harg6 : arg6.IsWhole)
    (arg7 : Memref sig .tc .vmem S1152x1024 .bf16) (harg7 : arg7.IsWhole) (arg8 : Memref sig .tc .vmem S2x6144x256 .bf16) (harg8 : arg8.IsWhole)
    (arg9 : Memref sig .tc .vmem S2x8x48x2x128 .bf16) (harg9 : arg9.IsWhole) (arg10 : Memref sig .tc .vmem S8x576x2x128 .bf16) (harg10 : arg10.IsWhole)

theorem mem_pb1 (arg1 : BitVec 32) (f3 : BufTy.Contents (Elt Ideal) arg3.view.ty) (f5 : BufTy.Contents (Elt Ideal) arg5.view.ty)
    (f9 : BufTy.Contents (Elt Ideal) arg9.view.ty) (P : View.Piece (Elt Ideal) S2x6144x256 .bf16) (n : Nat) (hn : n ≤ k0_t1_loop.trips) :
    P ∈ pb_k0_t1 (F := Ideal) 𝒱 c bd i arg2 harg2 arg3 harg3 arg4 harg4 arg5 harg5 arg6 harg6 arg7 harg7 arg8 harg8 arg9 harg9 arg10 harg10 arg1 f3 f5 f9 n
      ↔ ∃ k : Fin k0_t1_loop.trips, k.val < n ∧ ∃ q r b, P = wPiece (a3 := arg3) (a5 := arg5) (a9 := arg9) i arg1 f3 f5 f9 k q r b := by
  induction n with
  | zero => exact ⟨fun h => absurd h List.not_mem_nil, fun ⟨_, h, _⟩ => absurd h (Nat.not_lt_zero _)⟩
  | succ n ih =>
    have e := pb_k0_t1_succ (F := Ideal) 𝒱 c bd i arg2 harg2 arg3 harg3 arg4 harg4 arg5 harg5 arg6 harg6 arg7 harg7 arg8 harg8 arg9 harg9 arg10 harg10 arg1 f3 f5 f9 ⟨n, hn⟩
    rw [show n + 1 = (⟨n, hn⟩ : Fin k0_t1_loop.trips).val + 1 from rfl, e, List.mem_append, trip1_eq, mem_wList, ih (by omega)]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.1 hk with hk | hk
      · exact Or.inr ⟨k, hk, h⟩
      · obtain rfl : k = ⟨n, hn⟩ := Fin.ext hk
        exact Or.inl h

/-- After all the trips. -/
theorem weights_hold (f3 : BufTy.Contents (Elt Ideal) arg3.view.ty) (f5 : BufTy.Contents (Elt Ideal) arg5.view.ty)
    (f9 : BufTy.Contents (Elt Ideal) arg9.view.ty) (f8 : BufTy.Contents (Elt Ideal) arg8.view.ty) (S : Fin 2 → S48x1024.Idx → Elt Ideal .bf16)
    (h : ScalesHold (a9 := arg9) f9 S) :
    WeightsHold (a8 := arg8) (arg8.view.writes (Elt Ideal) f8 (pb_k0_t1 (F := Ideal) 𝒱 c bd i arg2 harg2 arg3 harg3 arg4 harg4 arg5 harg5 arg6 harg6 arg7 harg7
        arg8 harg8 arg9 harg9 arg10 harg10 (BitVec.ofNat 32 (i 1).val) f3 f5 f9 k0_t1_loop.trips))
      (weightAt (i 1) (two (arg3.view.read (Elt Ideal) f3) (arg5.view.read (Elt Ideal) f5)) S) := by
  intro q k j
  refine (View.read_writes_apply_of_pieces arg8.view f8
    (fun y : S2x6144x256.Idx => weightAt (i 1) (two (arg3.view.read (Elt Ideal) f3) (arg5.view.read (Elt Ideal) f5)) S (y 0) (y 1) (y 2)) _ ?_ _ ?_).trans rfl
  · intro P hP
    obtain ⟨k, -, q, r, b, rfl⟩ := (mem_pb1 _ _ _ _ _ _ _ _ _ _ _ _ _ _ _ _ _ _ _ _ _ _ _ _ _ _ P _ (le_refl _)).1 hP
    show ∀ x : S1x16x128.Idx, _
    intro x
    idx_vars x
    clear j
    have hk := trip1_lt k
    have e : (Rect.unit (s := S2x6144x256) (wOff k r q b) S1x16x128.size (wOff_inb k r q b)).emb (ix3 x0 x1 x2)
        = ix3 q ⟨128 * k.val + 16 * r.val + x1.val, by omega⟩ ⟨128 * b.val + x2.val, by omega⟩ :=
      Rect.emb_eq_of_coords _ _ _ fun a => by
        fin_cases a
        · show q.val = wOff k r q b 0 + 1 * x0.val; rw [wOff_eq]; show q.val = q.val + 1 * x0.val; omega
        · show 128 * k.val + 16 * r.val + x1.val = wOff k r q b 1 + 1 * x1.val; rw [wOff_eq]; show _ = 128 * k.val + 16 * r.val + 1 * x1.val; omega
        · show 128 * b.val + x2.val = wOff k r q b 2 + 1 * x2.val; rw [wOff_eq]; show _ = 128 * b.val + 1 * x2.val; omega
    refine Eq.trans ?_ (congrArg (fun y : S2x6144x256.Idx => weightAt (i 1) (two (arg3.view.read (Elt Ideal) f3) (arg5.view.read (Elt Ideal) f5)) S (y 0) (y 1) (y 2)) e.symm)
    refine Eq.trans ?_ (block_apply i f3 f5 f9 S h k q r b x1 x2)
    unfold wPiece
    pointwise
    fin_cases q <;> rfl
  · have hk := k.isLt
    refine ⟨wPiece (a3 := arg3) (a5 := arg5) (a9 := arg9) i (BitVec.ofNat 32 (i 1).val) f3 f5 f9 ⟨k.val / 128, by rw [trips1_eq]; omega⟩ q
      ⟨k.val % 128 / 16, by omega⟩ ⟨j.val / 128, by omega⟩,
      (mem_pb1 _ _ _ _ _ _ _ _ _ _ _ _ _ _ _ _ _ _ _ _ _ _ _ _ _ _ _ _ (le_refl _)).2 ⟨_, Fin.isLt _, _, _, _, rfl⟩, ?_⟩
    unfold wPiece
    rw [Rect.mem_set_unit, wOff_eq]
    intro a
    fin_cases a
    · show q.val ≤ q.val ∧ q.val < q.val + 1; omega
    · show 128 * (k.val / 128) + 16 * (k.val % 128 / 16) ≤ k.val ∧ k.val < 128 * (k.val / 128) + 16 * (k.val % 128 / 16) + 16; omega
    · show 128 * (j.val / 128) ≤ j.val ∧ j.val < 128 * (j.val / 128) + 128; omega

end

end Cert.KernelIdeal.Hand

end
-- ==== Proof.KernelHidden.lean ====
/-
  The hidden columns at an index: what one grid point stores into the scratch buffer of planes. Hand-written.
-/
module

public import proofs.«01_k».proof.Proof.KernelWeights
public import Idealize.ShloMosaic.Lib.ValueLayout

@[expose] public section

set_option maxRecDepth 16384

noncomputable section

namespace Cert.KernelIdeal.Hand

open Cert.Hand Cert.KernelIdeal Cert.KernelIdeal.Gen
open Idealize.ShloMosaic Idealize.ShloMosaic.TcCoe

/-- A row of the inputs against a column of one projection's weights. -/
def dotAt (X : S1152x6144.Idx → EReal) (W : Fin 6144 → Fin 256 → EReal) (row : Fin 1152) (j : Fin 256) : EReal :=
  ∑ k : Fin 6144, X (ix2 row k) * W k j

/-- `silu (gate) * up`. -/
def hiddenAt (X : S1152x6144.Idx → EReal) (W : Fin 2 → Fin 6144 → Fin 256 → EReal) (row : Fin 1152) (j : Fin 256) : EReal :=
  dotAt X (W 0) row j * Ideal.logistic (dotAt X (W 0) row j) * dotAt X (W 1) row j

/-- The step that fills plane `c`. -/
def stepOf (c : Fin 8) : Fin 4 := ⟨2 * (c.val % 2) + c.val / 4, by omega⟩
/-- The half of that step it is. -/
def halfOf (c : Fin 8) : Fin 2 := ⟨c.val / 2 % 2, by omega⟩

theorem plane_step_half : ∀ c : Fin 8, planeOf (stepOf c) (halfOf c) = c := by decide +kernel
theorem step_plane : ∀ (a : Fin 4) (b : Fin 2), stepOf (planeOf a b) = a := by decide +kernel
theorem half_plane : ∀ (a : Fin 4) (b : Fin 2), halfOf (planeOf a b) = b := by decide +kernel

/-- Plane `c` of a block: its row and lane. -/
def planeVal (X : S1152x6144.Idx → EReal) (C : Fin 2 → S6144x128.Idx → BitVec 32) (S : Fin 2 → S48x1024.Idx → EReal) (c : Fin 8)
    (row : Fin 1152) (l : Fin 128) : EReal :=
  hiddenAt X (weightAt (stepOf c) C S) row ⟨128 * (halfOf c).val + l.val, by omega⟩

theorem dot_apply (x : FVec Ideal S384x6144 .bf16) (w : FVec Ideal S6144x256 .bf16) (r : Fin 384) (j : Fin 256) :
    matmul dot_S384x6144_S6144x256_S384x256_1_0_0_1_n_n none x w (constant S384x256 .f32 0x00000000#32) (ix2 r j)
      = ∑ k : Fin 6144, x (ix2 r k) * w (ix2 k j) := by
  pointwise

theorem lhs_apply {a2 : Memref sig .tc .vmem S1152x6144 .bf16} (f2 : BufTy.Contents (Elt Ideal) a2.view.ty) (m : Fin 3) (h) (r : Fin 384) (k : Fin 6144) :
    shapeCast S384x6144 (a2.view.readAt (Elt Ideal) (Rect.unit (s := S1152x6144) ![384 * m.val, 0] S384x6144.size h).toLoadRect f2 : Vec Ideal S384x6144 .bf16)
      shapeCasts_S384x6144_S384x6144 (ix2 r k) = a2.view.read (Elt Ideal) f2 (ix2 ⟨384 * m.val + r.val, by omega⟩ k) := by
  pointwise [View.readAt_apply]

theorem cast_apply (x : Vec Ideal S1x6144x256 .bf16) (k : Fin 6144) (j : Fin 256) :
    shapeCast S6144x256 x shapeCasts_S1x6144x256_S6144x256 (ix2 k j) = x (ix3 0 k j) :=
  ValueIdx.shapeCast_1ab_ab_apply x _ k j

theorem rhs_apply {a8 : Memref sig .tc .vmem S2x6144x256 .bf16} (f8 : BufTy.Contents (Elt Ideal) a8.view.ty) (q : Fin 2) (h) (k : Fin 6144) (j : Fin 256) :
    (a8.view.readAt (Elt Ideal) (Rect.unit (s := S2x6144x256) ![q.val, 0, 0] S1x6144x256.size h).toLoadRect f8 : Vec Ideal S1x6144x256 .bf16) (ix3 0 k j)
      = a8.view.read (Elt Ideal) f8 (ix3 q k j) := by
  have e : (Rect.unit (s := S2x6144x256) ![q.val, 0, 0] S1x6144x256.size h).emb (ix3 0 k j) = ix3 q k j :=
    Rect.emb_eq_of_coords _ _ _ fun a => by
      fin_cases a
      · show q.val = q.val + 1 * 0; omega
      · show k.val = 0 + 1 * k.val; omega
      · show j.val = 0 + 1 * j.val; omega
  exact congrArg (a8.view.read (Elt Ideal) f8) e

section

variable {a2 : Memref sig .tc .vmem S1152x6144 .bf16} {a8 : Memref sig .tc .vmem S2x6144x256 .bf16}
    (f2 : BufTy.Contents (Elt Ideal) a2.view.ty) (f8 : BufTy.Contents (Elt Ideal) a8.view.ty)

theorem product_apply (W : Fin 2 → Fin 6144 → Fin 256 → EReal) (h : WeightsHold (a8 := a8) f8 W) (m : Fin 3) (q : Fin 2) (r : Fin 384) (j : Fin 256) :
    product (a2 := a2) (a8 := a8) f2 f8 m q (ix2 r j) = dotAt (a2.view.read (Elt Ideal) f2) (W q) ⟨384 * m.val + r.val, by omega⟩ j := by
  unfold product dotAt
  rw [dot_apply]
  refine Finset.sum_congr rfl fun k _ => ?_
  rw [lhs_apply, cast_apply, rhs_apply, h q k j]

theorem hidden_apply (W : Fin 2 → Fin 6144 → Fin 256 → EReal) (h : WeightsHold (a8 := a8) f8 W) (m : Fin 3) (r : Fin 384) (j : Fin 256) :
    hidden (a2 := a2) (a8 := a8) f2 f8 m (ix2 r j) = hiddenAt (a2.view.read (Elt Ideal) f2) W ⟨384 * m.val + r.val, by omega⟩ j := by
  pointwise [hidden]
  rw [product_apply f2 f8 W h, product_apply f2 f8 W h]
  rfl

theorem paired_apply (x : FVec Ideal S384x256 .bf16) (b : Fin 2) (r : Fin 192) (p : Fin 2) (l : Fin 128) (z : Fin 1) :
    paired (hiddenHalf x b) (ix4 z r p l) = x (ix2 ⟨2 * r.val + p.val, by omega⟩ ⟨128 * b.val + l.val, by omega⟩) := by
  fin_cases b <;> fin_cases p <;> pointwise [paired, hiddenHalf]

theorem mem_hList (i : grid0.Coords) (P : View.Piece (Elt Ideal) S8x576x2x128 .bf16) :
    P ∈ hList (a2 := a2) (a8 := a8) i f2 f8 ↔ ∃ m b, P = hPiece (a2 := a2) (a8 := a8) i f2 f8 m b := by
  unfold hList
  simp only [List.mem_flatMap, List.mem_map]
  constructor
  · rintro ⟨m, -, b, -, rfl⟩; exact ⟨m, b, rfl⟩
  · rintro ⟨m, b, rfl⟩
    exact ⟨m, by revert m; decide, b, by revert b; decide, rfl⟩

/-- The planes as one array. -/
def planesAt (X : S1152x6144.Idx → EReal) (C : Fin 2 → S6144x128.Idx → BitVec 32) (S : Fin 2 → S48x1024.Idx → EReal) (y : S8x576x2x128.Idx) :
    Elt Ideal .bf16 :=
  planeVal X C S (y 0) ⟨2 * (y 1).val + (y 2).val, by
    have h1 : (y 1).val < 576 := (y 1).isLt
    have h2 : (y 2).val < 2 := (y 2).isLt
    omega⟩ (y 3)

theorem hidden_value (a : Fin 4) (C : Fin 2 → S6144x128.Idx → BitVec 32) (S : Fin 2 → S48x1024.Idx → EReal)
    (h : WeightsHold (a8 := a8) f8 (weightAt a C S)) (m : Fin 3) (b : Fin 2) (r : Fin 192) (p : Fin 2) (l : Fin 128) (z : Fin 1) :
    paired (hiddenHalf (hidden (a2 := a2) (a8 := a8) f2 f8 m) b) (ix4 z r p l)
      = planesAt (a2.view.read (Elt Ideal) f2) C S (ix4 (planeOf a b) ⟨192 * m.val + r.val, by omega⟩ p l) := by
  rw [paired_apply, hidden_apply f2 f8 _ h]
  show _ = hiddenAt (a2.view.read (Elt Ideal) f2) (weightAt (stepOf (planeOf a b)) C S) ⟨2 * (192 * m.val + r.val) + p.val, by omega⟩
    ⟨128 * (halfOf (planeOf a b)).val + l.val, by omega⟩
  simp only [step_plane, half_plane]
  exact congrArg (fun z => hiddenAt (a2.view.read (Elt Ideal) f2) (weightAt a C S) z _)
    (Fin.ext (show 384 * m.val + (2 * r.val + p.val) = 2 * (192 * m.val + r.val) + p.val by omega))

theorem hEmb (i : grid0.Coords) (m : Fin 3) (b : Fin 2) (x0 : Fin 1) (x1 : Fin 192) (x2 : Fin 2) (x3 : Fin 128) :
    (Rect.unit (s := S8x576x2x128) (hOff i m b) S1x192x2x128.size (hOff_inb i m b)).emb (ix4 x0 x1 x2 x3)
      = ix4 (planeOf (i 1) b) ⟨192 * m.val + x1.val, by omega⟩ x2 x3 :=
  Rect.emb_eq_of_coords _ _ _ fun a => by
    fin_cases a
    · show (planeOf (i 1) b).val = hOff i m b 0 + 1 * x0.val; rw [hOff_eq]; show plane (i 1).val b.val = plane (i 1).val b.val + 1 * x0.val; omega
    · show 192 * m.val + x1.val = hOff i m b 1 + 1 * x1.val; rw [hOff_eq]; show _ = 192 * m.val + 1 * x1.val; omega
    · show x2.val = hOff i m b 2 + 1 * x2.val; rw [hOff_eq]; show _ = 0 + 1 * x2.val; omega
    · show x3.val = hOff i m b 3 + 1 * x3.val; rw [hOff_eq]; show _ = 0 + 1 * x3.val; omega

/-- The point's own two planes. -/
theorem hidden_own {a10 : Memref sig .tc .vmem S8x576x2x128 .bf16} (i : grid0.Coords) (f10 : BufTy.Contents (Elt Ideal) a10.view.ty)
    (C : Fin 2 → S6144x128.Idx → BitVec 32) (S : Fin 2 → S48x1024.Idx → EReal) (h : WeightsHold (a8 := a8) f8 (weightAt (i 1) C S))
    (c : Fin 8) (r : Fin 576) (p : Fin 2) (l : Fin 128) (hc : (stepOf c).val = (i 1).val) :
    a10.view.read (Elt Ideal) (a10.view.writes (Elt Ideal) f10 (hList (a2 := a2) (a8 := a8) i f2 f8)) (ix4 c r p l)
      = planesAt (a2.view.read (Elt Ideal) f2) C S (ix4 c r p l) := by
  refine View.read_writes_apply_of_pieces a10.view f10 (planesAt (a2.view.read (Elt Ideal) f2) C S) _ ?_ _ ?_
  · intro P hP
    obtain ⟨m, b, rfl⟩ := (mem_hList _ _ _ _).1 hP
    show ∀ x : S1x192x2x128.Idx, _
    intro x
    idx_vars x
    refine Eq.trans ?_ (congrArg (planesAt (a2.view.read (Elt Ideal) f2) C S) (hEmb i m b x0 x1 x2 x3).symm)
    exact hidden_value f2 f8 (i 1) C S h m b x1 x2 x3 x0
  · refine ⟨hPiece (a2 := a2) (a8 := a8) i f2 f8 ⟨r.val / 192, by omega⟩ (halfOf c), (mem_hList _ _ _ _).2 ⟨_, _, rfl⟩, ?_⟩
    unfold hPiece
    rw [Rect.mem_set_unit, hOff_eq]
    have e : plane (i 1).val (halfOf c).val = c.val := by rw [← hc]; exact congrArg Fin.val (plane_step_half c)
    intro a
    fin_cases a
    · show plane (i 1).val (halfOf c).val ≤ c.val ∧ c.val < plane (i 1).val (halfOf c).val + 1; omega
    · show 192 * (r.val / 192) ≤ r.val ∧ r.val < 192 * (r.val / 192) + 192; omega
    · show 0 ≤ p.val ∧ p.val < 0 + 2; omega
    · show 0 ≤ l.val ∧ l.val < 0 + 128; omega

/-- The other planes. -/
theorem hidden_other {a10 : Memref sig .tc .vmem S8x576x2x128 .bf16} (i : grid0.Coords) (f10 : BufTy.Contents (Elt Ideal) a10.view.ty)
    (c : Fin 8) (r : Fin 576) (p : Fin 2) (l : Fin 128) (hc : ¬ (stepOf c).val = (i 1).val) :
    a10.view.read (Elt Ideal) (a10.view.writes (Elt Ideal) f10 (hList (a2 := a2) (a8 := a8) i f2 f8)) (ix4 c r p l)
      = a10.view.read (Elt Ideal) f10 (ix4 c r p l) := by
  refine View.read_writes_apply_of_forall_not_mem a10.view f10 _ _ fun P hP hm => hc ?_
  obtain ⟨m, b, rfl⟩ := (mem_hList _ _ _ _).1 hP
  unfold hPiece at hm
  rw [Rect.mem_set_unit, hOff_eq] at hm
  have h0 : plane (i 1).val b.val ≤ c.val ∧ c.val < plane (i 1).val b.val + 1 := hm 0
  obtain rfl : c = planeOf (i 1) b := Fin.ext (show c.val = plane (i 1).val b.val by omega)
  exact congrArg Fin.val (step_plane (i 1) b)

end

end Cert.KernelIdeal.Hand

end
-- ==== Proof.KernelBlocks.lean ====
/-
  The blocks of the five input windows, as functions of the argument arrays: grid point `t` works on column block `t / 4`
  at window step `t % 4`. Hand-written, untrusted.
-/
module

public import proofs.«01_k».proof.Proof.KernelHidden
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Hand

open Cert.Hand Cert.KernelIdeal Cert.KernelIdeal.Gen
open Idealize.ShloMosaic Idealize.ShloMosaic.TcCoe
open Idealize.SL

/-- The column block of a grid point. -/
def colOf (t : Fin cfg0.N) : Fin 16 := ⟨t.val / 4, by have h : t.val < 64 := t.isLt; omega⟩

/-- Column block `n` of a packed weight array. -/
def colWords (A : S6144x2048.Idx → BitVec 32) (n : Fin 16) : S6144x128.Idx → BitVec 32 :=
  fun y => A (ix2 (y 0) ⟨128 * n.val + (y 1).val, by have : (y 1).val < 128 := (y 1).isLt; omega⟩)

/-- Column block `n` of a scale array. -/
def colScales (A : S48x16384.Idx → EReal) (n : Fin 16) : S48x1024.Idx → EReal :=
  fun y => A (ix2 (y 0) ⟨1024 * n.val + (y 1).val, by have : (y 1).val < 1024 := (y 1).isLt; omega⟩)

theorem idx1 : ∀ t : Fin cfg0.N, win0_1.index t = ![0, t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![0, t.val / 4] := (by decide +kernel : ∀ t : Fin grid0.N, _)
theorem idx4 : ∀ t : Fin cfg0.N, win0_4.index t = ![0, t.val / 4] := (by decide +kernel : ∀ t : Fin grid0.N, _)
theorem idx0 : ∀ t : Fin cfg0.N, win0_0.index t = ![0, 0] := (by decide +kernel : ∀ t : Fin grid0.N, _)
theorem idx5 : ∀ t : Fin cfg0.N, win0_5.index t = ![0, t.val / 4] := (by decide +kernel : ∀ t : Fin grid0.N, _)
/-- The second grid coordinate of point `t`. -/
theorem step_eq : ∀ t : Fin cfg0.N, (grid0.coords t 1).val = t.val % 4 := (by decide +kernel : ∀ t : Fin grid0.N, _)
theorem cond2_iff : ∀ t : Fin cfg0.N, (k0_cond2 (grid0.coords t) = 1#1) ↔ t.val % 4 = 3 := (by decide +kernel : ∀ t : Fin grid0.N, _)

variable (m : (ℓ : Loc nD τ sig) → Buf (Elt Ideal) ℓ)

/-- The activations as the kernel reads them: the first argument with its two leading axes merged. -/
def acts (c : Dev nD) : S1152x6144.Idx → EReal := V m c main_v0

theorem iblk_words1 (c : Dev nD) (t : Fin cfg0.N) : iblk m c 1 t = colWords (m ((c.tc : Thread nD τ).loc main_arg1)) (colOf t) := by
  funext y
  unfold colWords iblk
  rw [show V m c (Pipeline.arrRef spec0 1) = m _ from V_main_arg1 m c]
  blk_simp
  exact congrArg _ (by blk_ext [idx1 t, colOf])
theorem iblk_words3 (c : Dev nD) (t : Fin cfg0.N) : iblk m c 3 t = colWords (m ((c.tc : Thread nD τ).loc main_arg3)) (colOf t) := by
  funext y
  unfold colWords iblk
  rw [show V m c (Pipeline.arrRef spec0 3) = m _ from V_main_arg3 m c]
  blk_simp
  exact congrArg _ (by blk_ext [idx3 t, colOf])
theorem iblk_scales2 (c : Dev nD) (t : Fin cfg0.N) : iblk m c 2 t = colScales (m ((c.tc : Thread nD τ).loc main_arg2)) (colOf t) := by
  funext y
  unfold colScales iblk
  rw [show V m c (Pipeline.arrRef spec0 2) = m _ from V_main_arg2 m c]
  blk_simp
  exact congrArg _ (by blk_ext [idx2 t, colOf])
theorem iblk_scales4 (c : Dev nD) (t : Fin cfg0.N) : iblk m c 4 t = colScales (m ((c.tc : Thread nD τ).loc main_arg4)) (colOf t) := by
  funext y
  unfold colScales iblk
  rw [show V m c (Pipeline.arrRef spec0 4) = m _ from V_main_arg4 m c]
  blk_simp
  exact congrArg _ (by blk_ext [idx4 t, colOf])
theorem iblk_acts (c : Dev nD) (t : Fin cfg0.N) : iblk m c 0 t = acts m c := by
  funext y
  unfold acts iblk
  blk_simp
  exact congrArg (V m c main_v0) (by blk_ext [idx0 t])

theorem acts_eq (c : Dev nD) : acts m c = shapeCast S1152x6144 (m ((c.tc : Thread nD τ).loc main_arg0) : S3x384x6144.Idx → EReal) Facts₀.shapeCasts_S3x384x6144_S1152x6144 := by
  unfold acts V
  rfl

end Cert.KernelIdeal.Hand

end
-- ==== Proof.KernelPoint.lean ====
/-
  One grid point, as statements about contents: if the scratch holds what the earlier points of the column block left, the point
  leaves the scales unpacked, its own two planes added and, at the last step, the output block. Hand-written, untrusted.
-/
module

public import proofs.«01_k».proof.Proof.KernelRun
public import proofs.«01_k».proof.Proof.KernelEmit
public import proofs.«01_k».proof.Proof.KernelBlocks

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem cond1_iff : ∀ t : Fin cfg0.N, (cond1 (grid0.coords t) = 1#1) ↔ t.val % 4 = 0 := (by decide +kernel : ∀ t : Fin grid0.N, _)

/-- The planes the first `a` steps of a column block write are in the scratch. -/
def PlanesHold {a10 : Memref sig .tc .vmem S8x576x2x128 .bf16} (f10 : BufTy.Contents (Elt Ideal) a10.view.ty) (P : S8x576x2x128.Idx → Elt Ideal .bf16) (a : Nat) : Prop :=
  ∀ (c : Fin 8), (stepOf c).val < a → ∀ (r : Fin 576) (p : Fin 2) (l : Fin 128), a10.view.read (Elt Ideal) f10 (ix4 c r p l) = P (ix4 c r p l)

theorem point_holds (c : Dev nD) (t : Fin cfg0.N)
    (a2 : Memref sig .tc .vmem S1152x6144 .bf16) (h2 : a2.IsWhole) (a3 : Memref sig .tc .vmem S6144x128 .i32) (h3 : a3.IsWhole)
    (a4 : Memref sig .tc .vmem S48x1024 .bf16) (h4 : a4.IsWhole) (a5 : Memref sig .tc .vmem S6144x128 .i32) (h5 : a5.IsWhole)
    (a6 : Memref sig .tc .vmem S48x1024 .bf16) (h6 : a6.IsWhole) (a7 : Memref sig .tc .vmem S1152x1024 .bf16) (h7 : a7.IsWhole)
    (wM : Memref sig .tc .vmem S2x6144x256 .bf16) (h8 : wM.IsWhole) (sM : Memref sig .tc .vmem S2x8x48x2x128 .bf16) (h9 : sM.IsWhole)
    (hM : Memref sig .tc .vmem S8x576x2x128 .bf16) (h10 : hM.IsWhole)
    (f2 : BufTy.Contents (Elt Ideal) a2.view.ty) (f3 : BufTy.Contents (Elt Ideal) a3.view.ty) (f4 : BufTy.Contents (Elt Ideal) a4.view.ty)
    (f5 : BufTy.Contents (Elt Ideal) a5.view.ty) (f6 : BufTy.Contents (Elt Ideal) a6.view.ty) (f7 g7 : BufTy.Contents (Elt Ideal) a7.view.ty)
    (f8 g8 : BufTy.Contents (Elt Ideal) wM.view.ty) (f9 g9 : BufTy.Contents (Elt Ideal) sM.view.ty) (f10 g10 : BufTy.Contents (Elt Ideal) hM.view.ty)
    (X : S1152x6144.Idx → EReal) (C0 C1 : S6144x128.Idx → BitVec 32) (S0 S1 : S48x1024.Idx → EReal)
    (e2 : a2.view.read (Elt Ideal) f2 = X) (e3 : a3.view.read (Elt Ideal) f3 = C0) (e4 : a4.view.read (Elt Ideal) f4 = S0)
    (e5 : a5.view.read (Elt Ideal) f5 = C1) (e6 : a6.view.read (Elt Ideal) f6 = S1)
    (hs : t.val % 4 ≠ 0 → ScalesHold (a9 := sM) f9 (two S0 S1))
    (hp : PlanesHold (a10 := hM) f10 (planesAt X (two C0 C1) (two S0 S1)) (t.val % 4))
    (hg : (cond1 (grid0.coords t) = 1#1 → g9 = sM.view.writes (Elt Ideal) f9 (scaleList (a4 := a4) (a6 := a6) lane f4 f6)) ∧ (cond1 (grid0.coords t) ≠ 1#1 → g9 = f9)
            ∧ g8 = wM.view.writes (Elt Ideal) f8 (pb_k0_t1 (F := Ideal) Variants.none c none (grid0.coords t) a2 h2 a3 h3 a4 h4 a5 h5 a6 h6 a7 h7 wM h8 sM h9 hM h10 (BitVec.ofNat 32 ((grid0.coords t) 1).val) f3 f5 g9 k0_t1_loop.trips)
            ∧ g10 = hM.view.writes (Elt Ideal) f10 (hList (a2 := a2) (a8 := wM) (grid0.coords t) f2 g8)
            ∧ (∀ h : k0_cond2 (grid0.coords t) = 1#1, g7 = a7.view.writes (Elt Ideal) f7 (pb_k0_t2 (F := Ideal) Variants.none c none (grid0.coords t) a2 h2 a3 h3 a4 h4 a5 h5 a6 h6 a7 h7 wM h8 sM h9 hM h10 lane h g10 k0_t2_loop.trips))
            ∧ (k0_cond2 (grid0.coords t) ≠ 1#1 → g7 = f7)) :
    ScalesHold (a9 := sM) g9 (two S0 S1)
      ∧ PlanesHold (a10 := hM) g10 (planesAt X (two C0 C1) (two S0 S1)) (t.val % 4 + 1)
      ∧ (t.val % 4 = 3 → a7.view.read (Elt Ideal) g7 = emitAt (planesAt X (two C0 C1) (two S0 S1)))
      ∧ (t.val % 4 ≠ 3 → g7 = f7) := by
  obtain ⟨hg9, hg9', hg8, hg10, hg7, hg7'⟩ := hg
  have hS : ScalesHold (a9 := sM) g9 (two S0 S1) := by
    by_cases h0 : t.val % 4 = 0
    · rw [hg9 ((cond1_iff t).2 h0), ← e4, ← e6]
      exact scales_hold f4 f6 f9
    · rw [hg9' fun h => h0 ((cond1_iff t).1 h)]
      exact hs h0
  have hW : WeightsHold (a8 := wM) g8 (weightAt ((grid0.coords t) 1) (two C0 C1) (two S0 S1)) := by
    rw [hg8, ← e3, ← e5]
    exact weights_hold _ _ _ _ _ _ _ _ _ _ _ _ _ _ _ _ _ _ _ _ _ _ f3 f5 g9 f8 _ hS
  have hP : PlanesHold (a10 := hM) g10 (planesAt X (two C0 C1) (two S0 S1)) (t.val % 4 + 1) := by
    intro c hc r p l
    rw [hg10]
    by_cases h : (stepOf c).val = ((grid0.coords t) 1).val
    · rw [← e2]
      exact hidden_own f2 g8 _ f10 _ _ hW c r p l h
    · rw [hidden_other f2 g8 _ f10 c r p l h]
      have := step_eq t
      exact hp c (by omega) r p l
  refine ⟨hS, hP, fun h3 => ?_, fun h3 => hg7' fun h => h3 ((cond2_iff t).1 h)⟩
  rw [hg7 ((cond2_iff t).2 h3), emit_holds]
  funext y
  exact hP _ (by have := (stepOf ⟨(y 1).val % 8, Nat.mod_lt _ (by omega)⟩).isLt; omega) _ _ _

local notation "𝕄" => MT nD τ sig Unit (Elt Ideal) ℕ (UR sig nD τ) ℕ

/-- `kernelRun` with `point_holds` for its account of the contents. -/
theorem pointRun (c : Dev nD) (t : Fin cfg0.N)
    (a2 : Memref sig .tc .vmem S1152x6144 .bf16) (h2 : a2.IsWhole) (a3 : Memref sig .tc .vmem S6144x128 .i32) (h3 : a3.IsWhole)
    (a4 : Memref sig .tc .vmem S48x1024 .bf16) (h4 : a4.IsWhole) (a5 : Memref sig .tc .vmem S6144x128 .i32) (h5 : a5.IsWhole)
    (a6 : Memref sig .tc .vmem S48x1024 .bf16) (h6 : a6.IsWhole) (a7 : Memref sig .tc .vmem S1152x1024 .bf16) (h7 : a7.IsWhole)
    (wM : Memref sig .tc .vmem S2x6144x256 .bf16) (h8 : wM.IsWhole) (sM : Memref sig .tc .vmem S2x8x48x2x128 .bf16) (h9 : sM.IsWhole)
    (hM : Memref sig .tc .vmem S8x576x2x128 .bf16) (h10 : hM.IsWhole)
    (f2 : BufTy.Contents (Elt Ideal) a2.view.ty) (f3 : BufTy.Contents (Elt Ideal) a3.view.ty) (f4 : BufTy.Contents (Elt Ideal) a4.view.ty)
    (f5 : BufTy.Contents (Elt Ideal) a5.view.ty) (f6 : BufTy.Contents (Elt Ideal) a6.view.ty) (f7 : BufTy.Contents (Elt Ideal) a7.view.ty)
    (f8 : BufTy.Contents (Elt Ideal) wM.view.ty) (f9 : BufTy.Contents (Elt Ideal) sM.view.ty) (f10 : BufTy.Contents (Elt Ideal) hM.view.ty)
    (X : S1152x6144.Idx → EReal) (C0 C1 : S6144x128.Idx → BitVec 32) (S0 S1 : S48x1024.Idx → EReal)
    (e2 : a2.view.read (Elt Ideal) f2 = X) (e3 : a3.view.read (Elt Ideal) f3 = C0) (e4 : a4.view.read (Elt Ideal) f4 = S0)
    (e5 : a5.view.read (Elt Ideal) f5 = C1) (e6 : a6.view.read (Elt Ideal) f6 = S1)
    (hs : t.val % 4 ≠ 0 → ScalesHold (a9 := sM) f9 (two S0 S1))
    (hp : PlanesHold (a10 := hM) f10 (planesAt X (two C0 C1) (two S0 S1)) (t.val % 4)) :
    (iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6) ∗ (a7.view.loc (c : Thread nD τ) ↦[a7.view.set]{fullShare} f7)
        ∗ (wM.view.loc (c : Thread nD τ) ↦[wM.view.set]{fullShare} f8) ∗ (sM.view.loc (c : Thread nD τ) ↦[sM.view.set]{fullShare} f9)
        ∗ (hM.view.loc (c : Thread nD τ) ↦[hM.view.set]{fullShare} f10)) : sProp 𝕄)
      ⊢ wp frame (wpE (defs₀ (F := Ideal)) Variants.none c none) Set.univ
          (cc0__body (grid0.coords t) a2 h2 a3 h3 a4 h4 a5 h5 a6 h6 a7 h7 wM h8 sM h9 hM h10)
          (fun _ => iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6)
        ∗ (∃ g7 : BufTy.Contents (Elt Ideal) a7.view.ty, ∃ g8 : BufTy.Contents (Elt Ideal) wM.view.ty, ∃ g9 : BufTy.Contents (Elt Ideal) sM.view.ty, ∃ g10 : BufTy.Contents (Elt Ideal) hM.view.ty,
          ⌜ScalesHold (a9 := sM) g9 (two S0 S1)
      ∧ PlanesHold (a10 := hM) g10 (planesAt X (two C0 C1) (two S0 S1)) (t.val % 4 + 1)
      ∧ (t.val % 4 = 3 → a7.view.read (Elt Ideal) g7 = emitAt (planesAt X (two C0 C1) (two S0 S1)))
      ∧ (t.val % 4 ≠ 3 → g7 = f7)⌝
          ∗ (a7.view.loc (c : Thread nD τ) ↦[a7.view.set]{fullShare} g7) ∗ (wM.view.loc (c : Thread nD τ) ↦[wM.view.set]{fullShare} g8)
          ∗ (sM.view.loc (c : Thread nD τ) ↦[sM.view.set]{fullShare} g9) ∗ (hM.view.loc (c : Thread nD τ) ↦[hM.view.set]{fullShare} g10)))) := by
  refine triple_restated (kernelRun c (grid0.coords t) a2 h2 a3 h3 a4 h4 a5 h5 a6 h6 a7 h7 wM h8 sM h9 hM h10 f2 f3 f4 f5 f6 f7 f8 f9 f10)
    rfl .rfl fun _ => ?_
  iintro ⟨H2, H3, H4, H5, H6, ⟨%g7, %g8, %g9, %g10, %hg, H⟩⟩
  isplitl [H2]; · iexact H2
  isplitl [H3]; · iexact H3
  isplitl [H4]; · iexact H4
  isplitl [H5]; · iexact H5
  isplitl [H6]; · iexact H6
  iexists g7, g8, g9, g10
  isplitr
  · ipureintro
    exact point_holds c t a2 h2 a3 h3 a4 h4 a5 h5 a6 h6 a7 h7 wM h8 sM h9 hM h10 f2 f3 f4 f5 f6 f7 g7 f8 g8 f9 g9 f10 g10 X C0 C1 S0 S1
      e2 e3 e4 e5 e6 hs hp hg
  iexact H

end Cert.KernelIdeal.Hand

end
-- ==== Proof.KernelValue.lean ====
/-
  The run of the printed kernel over the extended reals, with its value: between the points of a column block the scratch holds the
  unpacked scales and the planes of hidden columns written so far; the last point of the block interleaves them into the output
  block; the library's tracked run turns that into the run of the whole program. Hand-written, untrusted.
-/
module

public import proofs.«01_k».proof.Proof.KernelPoint
public import Idealize.ShloMosaic.Lib.Pipeline.Frame
public import Idealize.ShloMosaic.Lib.Tactic

@[expose] public section

set_option maxRecDepth 16384

noncomputable section

namespace Cert.KernelIdeal.Hand

open Cert.Hand Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## What a column block is computed from -/

/-- The packed weight words of column block `n`, of both projections. -/
def wordsOf (c : Dev nD) (n : Fin 16) : Fin 2 → S6144x128.Idx → BitVec 32 :=
  two (colWords (m ((c.tc : Thread nD τ).loc main_arg1)) n) (colWords (m ((c.tc : Thread nD τ).loc main_arg3)) n)
/-- The scales of column block `n`, of both projections. -/
def scalesOf (c : Dev nD) (n : Fin 16) : Fin 2 → S48x1024.Idx → EReal :=
  two (colScales (m ((c.tc : Thread nD τ).loc main_arg2)) n) (colScales (m ((c.tc : Thread nD τ).loc main_arg4)) n)
/-- The eight planes of column block `n`. -/
def planesOf (c : Dev nD) (n : Fin 16) : S8x576x2x128.Idx → Elt Ideal .bf16 := planesAt (acts m c) (wordsOf m c n) (scalesOf m c n)

/-- The column block point number `k` works on. -/
def colN (k : Nat) : Fin 16 := ⟨k / 4 % 16, Nat.mod_lt _ (by omega)⟩

theorem colOf_eq (t : Fin cfg0.N) : colOf t = colN t.val := by
  have h : t.val < 64 := t.isLt
  unfold colOf colN
  exact Fin.ext (show t.val / 4 = t.val / 4 % 16 by omega)

/-! ## The invariant -/

/-- The scales before point `k`: unpacked, except before a column block's first point. -/
def ScalesInv (c : Dev nD) (k : Nat) (f9 : BufTy.Contents (Elt Ideal) (Memref.whole cc0_scratch1 : Memref sig .tc .vmem S2x8x48x2x128 .bf16).view.ty) : Prop :=
  k % 4 ≠ 0 → ScalesHold (a9 := Memref.whole cc0_scratch1) f9 (scalesOf m c (colN k))
/-- The planes before point `k`: those of the earlier points of the column block. -/
def PlanesInv (c : Dev nD) (k : Nat) (f10 : BufTy.Contents (Elt Ideal) (Memref.whole cc0_scratch2 : Memref sig .tc .vmem S8x576x2x128 .bf16).view.ty) : Prop :=
  PlanesHold (a10 := Memref.whole cc0_scratch2) f10 (planesOf m c (colN k)) (k % 4)

/-- The scratch before point `k`, and the generator's register. -/
def PhiS (c : Dev nD) (k : Nat) : sProp 𝕄 :=
  iprop(iprop((∃ d, owns (c : Thread nD τ) (Memref.whole cc0_scratch0) fullShare d)
        ∗ (∃ f, ⌜ScalesInv m c k f⌝ ∗ ((Memref.whole cc0_scratch1 : Memref sig .tc .vmem S2x8x48x2x128 .bf16).view.loc (c : Thread nD τ) ↦[(Memref.whole cc0_scratch1 : Memref sig .tc .vmem S2x8x48x2x128 .bf16).view.set]{fullShare} f))
        ∗ (∃ f, ⌜PlanesInv m c k f⌝ ∗ ((Memref.whole cc0_scratch2 : Memref sig .tc .vmem S8x576x2x128 .bf16).view.loc (c : Thread nD τ) ↦[(Memref.whole cc0_scratch2 : Memref sig .tc .vmem S8x576x2x128 .bf16).view.set]{fullShare} f)))
      ∗ ∃ r, prngReg c r)

theorem scalesInv_of_zero (c : Dev nD) (k : Nat) (hk : k % 4 = 0) (f) : ScalesInv m c k f := fun h => absurd hk h
theorem planesInv_of_zero (c : Dev nD) (k : Nat) (hk : k % 4 = 0) (f) : PlanesInv m c k f := by
  intro i hi; omega

/-- After point `t` the scales are as the next point expects them. -/
theorem scalesInv_succ (c : Dev nD) (t : Fin cfg0.N) (f) (h : ScalesHold (a9 := Memref.whole cc0_scratch1) f (scalesOf m c (colOf t))) :
    ScalesInv m c (t.val + 1) f := by
  intro hk
  have e : colN (t.val + 1) = colOf t := by
    rw [colOf_eq]; unfold colN; exact Fin.ext (show (t.val + 1) / 4 % 16 = t.val / 4 % 16 by omega)
  rw [e]; exact h
/-- After point `t` the planes are as the next point expects them. -/
theorem planesInv_succ (c : Dev nD) (t : Fin cfg0.N) (f) (h : PlanesHold (a10 := Memref.whole cc0_scratch2) f (planesOf m c (colOf t)) (t.val % 4 + 1)) :
    PlanesInv m c (t.val + 1) f := by
  by_cases hk : (t.val + 1) % 4 = 0
  · exact planesInv_of_zero m c _ hk f
  have e : colN (t.val + 1) = colOf t := by
    rw [colOf_eq]; unfold colN; exact Fin.ext (show (t.val + 1) / 4 % 16 = t.val / 4 % 16 by omega)
  unfold PlanesInv
  rw [e, show (t.val + 1) % 4 = t.val % 4 + 1 by omega]; exact h

/-- The class invariant opened: the three scratch buffers, each whole at some contents, and the generator's register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
            ∗ (∃ d, owns (c : Thread nD τ) (Memref.whole cc0_scratch2) fullShare d)) ∗ ∃ r, prngReg c r) := by
  unfold Pipeline.ΦA; rw [scopedRest0_eq]; simp only [owns_whole]; try rfl

/-- Before a column block's first point the scratch may hold anything. -/
theorem phi_in (c : Dev nD) (k : Nat) (hk : k % 4 = 0) : (Pipeline.ΦA spec0 c : sProp 𝕄) ⊢ PhiS m c k := by
  rw [PhiA_eq]; unfold PhiS owns
  iintro ⟨⟨H8, ⟨%_, %f9, -, H9⟩, ⟨%_, %f10, -, H10⟩⟩, Hg⟩
  isplitr [Hg]
  · isplitl [H8]; · iexact H8
    isplitl [H9]
    · iexists f9; isplitr; · ipureintro; exact scalesInv_of_zero m c k hk f9
      iexact H9
    iexists f10; isplitr; · ipureintro; exact planesInv_of_zero m c k hk f10
    iexact H10
  iexact Hg

/-- What the invariant says of the contents, forgotten. -/
theorem phi_out (c : Dev nD) (k : Nat) : PhiS m c k ⊢ (Pipeline.ΦA spec0 c : sProp 𝕄) := by
  rw [PhiA_eq]; unfold PhiS owns
  iintro ⟨⟨H8, ⟨%f9, -, H9⟩, ⟨%f10, -, H10⟩⟩, Hg⟩
  isplitr [Hg]
  · isplitl [H8]; · iexact H8
    isplitl [H9]
    · iexists _, f9; isplitr; · ipureintro; rfl
      iexact H9
    iexists _, f10; isplitr; · ipureintro; rfl
    iexact H10
  iexact Hg

/-! ## The proof data and the body obligation -/

/-- The proof data on core `c`: the arrays as the region finds them; the inputs' blocks left as they were fetched; the output block
    the planes of its column block, interleaved; the tracked scratch; full shares; nothing owed. -/
def dats (_ : Fin 1) (c : Dev nD) : Dat τ (Elt Ideal) Unit ℕ (UR sig nD τ) ℕ cfg0 c where
  A w := V m c (Pipeline.arrRef spec0 w)
  after := fun | 0 => iblk m c 0 | 1 => iblk m c 1 | 2 => iblk m c 2 | 3 => iblk m c 3 | 4 => iblk m c 4 | 5 => fun t => emitAt (planesOf m c (colOf t))
  Φ t := PhiS m c t.val
  q _ := fullShare
  owed _ := 0

theorem A_eq (c : Dev nD) (w : Fin cfg0.W) : (dats m 0 c).A w = V m c (Pipeline.arrRef spec0 w) := by dsimp only [dats]
theorem after5 (c : Dev nD) (t : Fin cfg0.N) : (dats m 0 c).after 5 t = emitAt (planesOf m c (colOf t)) := by dsimp only [dats]

/-- What the output window's buffer is left at: the finished block at a column block's last point, untouched before. -/
def outPost (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem idle5 : ∀ t : Fin cfg0.N, cfg0.idle 5 (cfg0.grid.coords t) = !(k0_cond2 (grid0.coords t) == 1#1) := fun _ => rfl

theorem outPost_last (c : Dev nD) (t : Fin cfg0.N) (h : t.val % 4 = 3) :
    outPost m c t = owns (c : Thread nD τ) (st0_5 t) fullShare ((dats m 0 c).after 5 t) := by
  unfold outPost
  have e : cfg0.idle 5 (cfg0.grid.coords t) = false := by rw [idle5, (cond2_iff t).2 h]; rfl
  rw [e]
theorem outPost_before (c : Dev nD) (t : Fin cfg0.N) (h : t.val % 4 ≠ 3) :
    outPost m c t = iprop(∃ d, owns (c : Thread nD τ) (st0_5 t) fullShare ((dats m 0 c).before 5 t d)) := by
  unfold outPost
  have e : cfg0.idle 5 (cfg0.grid.coords t) = true := by
    rw [idle5]; have := mt (cond2_iff t).1 h; simp [this]
  have e' : (cfg0.win 5).flush t = false := by
    rcases hf : (cfg0.win 5).flush t with _ | _
    · rfl
    · exact absurd ((flush0_5 t).1 hf) h
  rw [e, e']

/-- What the body is called with at point `t`. -/
def bodyPre (c : Dev nD) (t : Fin cfg0.N) : sProp 𝕄 :=
  iprop(PhiS m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))
/-- What it returns. -/
def bodyPost (c : Dev nD) (t : Fin cfg0.N) : sProp 𝕄 :=
  iprop(PhiS m c (t.val + 1) ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ outPost m c t)

/-- The output window's buffer after the body, from what the point lemma says of it. -/
theorem out_close (c : Dev nD) (t : Fin cfg0.N) (d) (f g : BufTy.Contents (Elt Ideal) (st0_5 t).view.ty)
    (e : (st0_5 t).view.read (Elt Ideal) f = (dats m 0 c).before 5 t d)
    (h3 : t.val % 4 = 3 → (st0_5 t).view.read (Elt Ideal) g = emitAt (planesOf m c (colOf t))) (h : t.val % 4 ≠ 3 → g = f) :
    ((st0_5 t).view.loc (c : Thread nD τ) ↦[(st0_5 t).view.set]{fullShare} g : sProp 𝕄) ⊢ outPost m c t := by
  by_cases ht : t.val % 4 = 3
  · rw [outPost_last m c t ht, after5]; unfold owns
    iintro H
    iexists g; isplitr; · ipureintro; exact h3 ht
    iexact H
  · rw [outPost_before m c t ht, h ht]; unfold owns
    iintro H
    iexists d, f; isplitr; · ipureintro; exact e
    iexact H

set_option maxHeartbeats 400000 in
/-- The body at the point: the invariant opened, `kernelRun`, `point_holds`, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0 PhiS
  rw [show (dats m 0 c).owesAt () t.succ = (dats m 0 c).owesAt () t.castSucc from rfl]
  simp only [before0_0_of m (dats m 0 c) rfl (fun _ => rfl), before0_1_of m (dats m 0 c) rfl (fun _ => rfl),
    before0_2_of m (dats m 0 c) rfl (fun _ => rfl), before0_3_of m (dats m 0 c) rfl (fun _ => rfl), before0_4_of m (dats m 0 c) rfl (fun _ => rfl)]
  unfold owns
  iintro ⟨⟨⟨⟨%_, %f8, -, H8⟩, ⟨%f9, %hs, H9⟩, ⟨%f10, %hp, H10⟩⟩, Hg⟩, HO, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩⟩
  unfold ScalesInv at hs
  unfold PlanesInv planesOf at hp
  rw [← colOf_eq] at hs hp
  iapply (wp_wand_r _ _ _)
  isplitl [H2 H3 H4 H5 H6 H7 H8 H9 H10]
  · iapply (pointRun c t _ _ _ _ _ _ _ _ _ _ _ _ _ _ _ _ _ _ f2 f3 f4 f5 f6 f7 f8 f9 f10 _ _ _ _ _
      (e2.trans (iblk_acts m c t)) (e3.trans (iblk_words1 m c t)) (e4.trans (iblk_scales2 m c t)) (e5.trans (iblk_words3 m c t))
      (e6.trans (iblk_scales4 m c t)) hs hp)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨H2, H3, H4, H5, H6, ⟨%g7, %g8, %g9, %g10, %hg, H7, H8, H9, H10⟩⟩
  obtain ⟨hs', hp', ho, hk⟩ := hg
  isplitl [H8 H9 H10 Hg]
  · isplitr [Hg]
    · isplitl [H8]; · iexists _, g8; isplitr; · ipureintro; rfl
                      iexact H8
      isplitl [H9]; · iexists g9; isplitr; · ipureintro; exact scalesInv_succ m c t g9 hs'
                      iexact H9
      iexists g10; isplitr; · ipureintro; exact planesInv_succ m c t g10 hp'
      iexact H10
    iexact Hg
  isplitl [HO]; · iexact HO
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iapply (out_close m c t d7 f7 g7 e7 ho hk)
  iexact H7

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
/-- From any memory with zero counters, every weakly fair execution of the program ends with the arrays at what the proof data says
    and every semaphore counter at zero. -/
theorem run_main :
    θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c 0 rfl) (hout := fun c => phi_out m c _)

/-- What the run leaves, read at the argument arrays: they are as they were. -/
theorem args_kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

/-! ## The result array -/

/-- The result at a row and column: its column block's plane. -/
def resultAt (c : Dev nD) (y : S1152x16384.Idx) : Elt Ideal .bf16 :=
  planeVal (acts m c) (wordsOf m c ⟨(y 1).val / 1024, by have h : (y 1).val < 16384 := (y 1).isLt; omega⟩)
    (scalesOf m c ⟨(y 1).val / 1024, by have h : (y 1).val < 16384 := (y 1).isLt; omega⟩)
    ⟨(y 1).val % 8, Nat.mod_lt _ (by omega)⟩ (y 0) ⟨(y 1).val % 1024 / 8, by omega⟩

theorem emit_result (c : Dev nD) (n : Fin 16) (y : S1152x1024.Idx) (z : S1152x16384.Idx) (h0 : (z 0).val = (y 0).val) (h1 : (z 1).val = 1024 * n.val + (y 1).val) :
    emitAt (planesOf m c n) y = resultAt m c z := by
  have hy : (y 1).val < 1024 := (y 1).isLt
  have en : (⟨(z 1).val / 1024, by have h : (z 1).val < 16384 := (z 1).isLt; omega⟩ : Fin 16) = n := Fin.ext (show (z 1).val / 1024 = n.val by omega)
  have ec : (⟨(z 1).val % 8, Nat.mod_lt _ (by omega)⟩ : Fin 8) = ⟨(y 1).val % 8, Nat.mod_lt _ (by omega)⟩ := Fin.ext (show (z 1).val % 8 = (y 1).val % 8 by omega)
  have er : (z 0 : Fin 1152) = ⟨2 * ((y 0).val / 2) + (y 0).val % 2, by have h : (y 0).val < 1152 := (y 0).isLt; omega⟩ := Fin.ext (show (z 0).val = _ by rw [h0]; show _ = 2 * ((y 0).val / 2) + (y 0).val % 2; omega)
  have el : (⟨(z 1).val % 1024 / 8, by omega⟩ : Fin 128) = ⟨(y 1).val / 8, by omega⟩ := Fin.ext (show (z 1).val % 1024 / 8 = (y 1).val / 8 by omega)
  unfold resultAt
  rw [en, ec, er, el]
  rfl

theorem final_v1 (c : Dev nD) : (dats m 0 c).arrAt 5 cfg0.N = resultAt m c := by
  refine (dats m 0 c).arrAt_eq_of_covers 5 _ (by decide +kernel) fun t hf y => ?_
  blk_simp
  rw [after5]
  refine emit_result m c (colOf t) y _ ?_ ?_
  · blk_simp [idx5 t]
  · blk_simp [idx5 t]
    show t.val / 4 * 1024 + (y 1).val = 1024 * (t.val / 4) + (y 1).val
    omega

end Cert.KernelIdeal.Hand

end
-- ==== Proof.RefValue.lean ====
/-
  The reference over the extended reals, at an index: each of its sixteen products is one field of the packed words dequantized and
  contracted with the inputs; a result column reads the field and the scale of that column. Hand-written, untrusted.
-/
module

public import proofs.«01_k».proof.Proof.KernelWords
public import proofs.«01_k».proof.Proof.Gen.ReferenceIdeal.Read
public import Idealize.ShloMosaic.Lib.Pointwise

@[expose] public section

set_option maxRecDepth 16384

noncomputable section

namespace Cert.ReferenceIdeal.Hand

open Cert.Hand Cert.ReferenceIdeal Cert.ReferenceIdeal.Gen Cert.ReferenceIdeal.Read
open Idealize.ShloMosaic Idealize.ShloMosaic.TcCoe

/-- A field of the packed words, as a number. -/
def field (sh : BitVec 32) (A : IVec S6144x2048 32) : FVec Ideal S6144x2048 .bf16 :=
  subf (sitofp .bf16 (andi (Host.shrsi A (broadcastInDim S6144x2048 ![] bcast_S_S6144x2048 (constantI S_ 32 sh)))
    (broadcastInDim S6144x2048 ![] bcast_S_S6144x2048 (constantI S_ 32 15#32)))) (broadcastInDim S6144x2048 ![] bcast_S_S6144x2048 (constant S_ .bf16 0x4100#16))

/-- A group's scale at each of its rows. -/
def spread (z : FVec Ideal S48x2048 .bf16) : FVec Ideal S6144x2048 .bf16 :=
  shapeCast _ (broadcastInDim S48x128x2048 ![0, 2] bcast_S48x2048_S48x128x2048_0_2 z) shapeCasts_S48x128x2048_S6144x2048

/-- One field's product. -/
def part (sh : BitVec 32) (z : FVec Ideal S48x2048 .bf16) (X : FVec Ideal S3x384x6144 .bf16) (A : IVec S6144x2048 32) : FVec Ideal S3x384x2048 .f32 :=
  Host.dotGeneral dot_S3x384x6144_S6144x2048_S3x384x2048_2_0_01_1_n_n none X (mulf (field sh A) (spread z))

/-- One field's product, with the axis the eight are stacked on. -/
def layer (sh : BitVec 32) (z : FVec Ideal S48x2048 .bf16) (X : FVec Ideal S3x384x6144 .bf16) (A : IVec S6144x2048 32) : FVec Ideal S3x384x2048x1 .f32 :=
  broadcastInDim S3x384x2048x1 ![0, 1, 2] bcast_S3x384x2048_S3x384x2048x1_0_1_2 (part sh z X A)

theorem field_apply (t : Fin 8) (A : IVec S6144x2048 32) (k : Fin 6144) (w : Fin 2048) :
    field (BitVec.ofNat 32 (4 * t.val)) A (ix2 k w) = code (nib (A (ix2 k w)) t.val) := by
  rw [← reference_code, ← nib_word_signed]
  fin_cases t <;> rfl

theorem spread_apply (z : FVec Ideal S48x2048 .bf16) (k : Fin 6144) (w : Fin 2048) :
    spread z (ix2 k w) = z (ix2 ⟨k.val / 128, by omega⟩ w) := by
  pointwise [spread]

theorem slice_apply (c : Fin 8) (B : FVec Ideal S48x16384 .bf16) (h) (g : Fin 48) (w : Fin 2048) :
    Host.slice S48x2048 ![0, c.val] ![1, 8] B h (ix2 g w) = B (ix2 g ⟨8 * w.val + c.val, by omega⟩) := by
  pointwise
  exact congrArg (fun z => B (ix2 g z)) (Fin.ext (show c.val + 8 * w.val = 8 * w.val + c.val by omega))

theorem dot_apply (X : FVec Ideal S3x384x6144 .bf16) (W : FVec Ideal S6144x2048 .bf16) (a : Fin 3) (b : Fin 384) (w : Fin 2048) :
    Host.dotGeneral dot_S3x384x6144_S6144x2048_S3x384x2048_2_0_01_1_n_n none X W (ix3 a b w : S3x384x2048.Idx)
      = (∑ k : Fin 6144, X (ix3 a b k) * W (ix2 k w) : EReal) := by
  pointwise

theorem layer_cast (y : FVec Ideal S3x384x2048 .f32) (a : Fin 3) (b : Fin 384) (w : Fin 2048) :
    broadcastInDim S3x384x2048x1 ![0, 1, 2] bcast_S3x384x2048_S3x384x2048x1_0_1_2 y (ix4 a b w 0) = y (ix3 a b w) := by
  pointwise

/-- The field result column `c` (mod 8) reads. -/
def fieldOf (c : Fin 8) : Fin 8 := ⟨2 * (2 * (c.val % 2) + c.val / 4) + c.val / 2 % 2, by omega⟩

/-- The product at column `8 w + c` of the unpacked weights. -/
def columnAt (X : S3x384x6144.Idx → EReal) (A : S6144x2048.Idx → BitVec 32) (B : S48x16384.Idx → EReal) (a : Fin 3) (b : Fin 384) (w : Fin 2048) (c : Fin 8) : EReal :=
  ∑ k : Fin 6144, X (ix3 a b k) * (code (nib (A (ix2 k w)) (fieldOf c).val) * B (ix2 ⟨k.val / 128, by omega⟩ ⟨8 * w.val + c.val, by omega⟩))

theorem layer_apply (c : Fin 8) (h) (X : FVec Ideal S3x384x6144 .bf16) (A : IVec S6144x2048 32) (B : FVec Ideal S48x16384 .bf16)
    (a : Fin 3) (b : Fin 384) (w : Fin 2048) :
    layer (BitVec.ofNat 32 (4 * (fieldOf c).val)) (Host.slice S48x2048 ![0, c.val] ![1, 8] B h) X A (ix4 a b w 0) = columnAt X A B a b w c := by
  unfold layer part columnAt
  rw [layer_cast, dot_apply]
  refine Finset.sum_congr rfl fun k _ => congrArg (X (ix3 a b k) * ·) ?_
  show field _ A (ix2 k w) * spread _ (ix2 k w) = _
  rw [field_apply, spread_apply, slice_apply]

/-- Eight arrays stacked on the last axis. -/
theorem stack_apply (p : Fin 8 → FVec Ideal S3x384x2048x1 .f32) (h) (a : Fin 3) (b : Fin 384) (w : Fin 2048) (c : Fin 8) :
    concatenate S3x384x2048x8 3 [⟨S3x384x2048x1, p 0⟩, ⟨S3x384x2048x1, p 1⟩, ⟨S3x384x2048x1, p 2⟩, ⟨S3x384x2048x1, p 3⟩,
      ⟨S3x384x2048x1, p 4⟩, ⟨S3x384x2048x1, p 5⟩, ⟨S3x384x2048x1, p 6⟩, ⟨S3x384x2048x1, p 7⟩] h (ix4 a b w c) = p c (ix4 a b w 0) := by
  fin_cases c <;> pointwise

/-- `x ↦ x · σ(x) · y`, at an index of the flat result. -/
theorem tail_apply (g u : FVec Ideal S3x384x2048x8 .f32) (row : Fin 1152) (col : Fin 16384) :
    shapeCast S1152x16384 (truncf .bf16 (mulf (mulf (shapeCast S3x384x16384 g shapeCasts_S3x384x2048x8_S3x384x16384)
        (Host.divf (broadcastInDim S3x384x16384 ![] bcast_S_S3x384x16384 (constant S_ .f32 0x3F800000#32))
          (addf (broadcastInDim S3x384x16384 ![] bcast_S_S3x384x16384 (constant S_ .f32 0x3F800000#32))
            (Host.exp (Host.negf (shapeCast S3x384x16384 g shapeCasts_S3x384x2048x8_S3x384x16384))))))
        (shapeCast S3x384x16384 u shapeCasts_S3x384x2048x8_S3x384x16384)) bitsLt_bf16_f32 : FVec Ideal S3x384x16384 .bf16) shapeCasts_S3x384x16384_S1152x16384 (ix2 row col)
      = (g (ix4 ⟨row.val / 384, by omega⟩ ⟨row.val % 384, by omega⟩ ⟨col.val / 8, by omega⟩ ⟨col.val % 8, by omega⟩)
          * Ideal.logistic (g (ix4 ⟨row.val / 384, by omega⟩ ⟨row.val % 384, by omega⟩ ⟨col.val / 8, by omega⟩ ⟨col.val % 8, by omega⟩))
          * u (ix4 ⟨row.val / 384, by omega⟩ ⟨row.val % 384, by omega⟩ ⟨col.val / 8, by omega⟩ ⟨col.val % 8, by omega⟩) : EReal) := by
  pointwise
  rfl

theorem slices (c : Fin 8) : S48x16384.SlicesBy ![0, c.val] ![1, 8] S48x2048 := by
  fin_cases c
  · exact slicesBy_S48x16384_S48x2048_0s1_0s8
  · exact slicesBy_S48x16384_S48x2048_0s1_1s8
  · exact slicesBy_S48x16384_S48x2048_0s1_2s8
  · exact slicesBy_S48x16384_S48x2048_0s1_3s8
  · exact slicesBy_S48x16384_S48x2048_0s1_4s8
  · exact slicesBy_S48x16384_S48x2048_0s1_5s8
  · exact slicesBy_S48x16384_S48x2048_0s1_6s8
  · exact slicesBy_S48x16384_S48x2048_0s1_7s8

/-- The eight layers of one projection, by result column. -/
def layers (X : FVec Ideal S3x384x6144 .bf16) (A : IVec S6144x2048 32) (B : FVec Ideal S48x16384 .bf16) (c : Fin 8) : FVec Ideal S3x384x2048x1 .f32 :=
  layer (BitVec.ofNat 32 (4 * (fieldOf c).val)) (Host.slice S48x2048 ![0, c.val] ![1, 8] B (slices c)) X A

/-- The first projection's stack at an index. -/
theorem gate_apply (X : FVec Ideal S3x384x6144 .bf16) (A : IVec S6144x2048 32) (B : FVec Ideal S48x16384 .bf16)
    (a : Fin 3) (b : Fin 384) (w : Fin 2048) (c : Fin 8) : val_main_v104 (F := Ideal) X A B (ix4 a b w c) = columnAt X A B a b w c :=
  (stack_apply (layers X A B) concatenates_S3x384x2048x1_S3x384x2048x1_S3x384x2048x1_S3x384x2048x1_S3x384x2048x1_S3x384x2048x1_S3x384x2048x1_S3x384x2048x1_S3x384x2048x8_d3 a b w c).trans
    (layer_apply c _ X A B a b w)

/-- The second projection's stack at an index. -/
theorem up_apply (X : FVec Ideal S3x384x6144 .bf16) (A : IVec S6144x2048 32) (B : FVec Ideal S48x16384 .bf16)
    (a : Fin 3) (b : Fin 384) (w : Fin 2048) (c : Fin 8) : val_main_v210 (F := Ideal) X A B (ix4 a b w c) = columnAt X A B a b w c :=
  (stack_apply (layers X A B) concatenates_S3x384x2048x1_S3x384x2048x1_S3x384x2048x1_S3x384x2048x1_S3x384x2048x1_S3x384x2048x1_S3x384x2048x1_S3x384x2048x1_S3x384x2048x8_d3 a b w c).trans
    (layer_apply c _ X A B a b w)

/-- The reference's result at a row and column. -/
theorem result_apply (X : FVec Ideal S3x384x6144 .bf16) (A1 : IVec S6144x2048 32) (B1 : FVec Ideal S48x16384 .bf16)
    (A2 : IVec S6144x2048 32) (B2 : FVec Ideal S48x16384 .bf16) (row : Fin 1152) (col : Fin 16384) :
    val_main_v215 (F := Ideal) X A1 B1 A2 B2 (ix2 row col)
      = columnAt X A1 B1 ⟨row.val / 384, by omega⟩ ⟨row.val % 384, by omega⟩ ⟨col.val / 8, by omega⟩ ⟨col.val % 8, by omega⟩
          * Ideal.logistic (columnAt X A1 B1 ⟨row.val / 384, by omega⟩ ⟨row.val % 384, by omega⟩ ⟨col.val / 8, by omega⟩ ⟨col.val % 8, by omega⟩)
          * columnAt X A2 B2 ⟨row.val / 384, by omega⟩ ⟨row.val % 384, by omega⟩ ⟨col.val / 8, by omega⟩ ⟨col.val % 8, by omega⟩ := by
  rw [← gate_apply, ← up_apply]
  exact tail_apply (val_main_v104 (F := Ideal) X A1 B1) (val_main_v210 (F := Ideal) X A2 B2) row col

end Cert.ReferenceIdeal.Hand

end
-- ==== Proof.Bridge.lean ====
/-
  The two values agree: the kernel's result at a row and column is the reference's. A result column's plane, column block and lane are
  the reference's field, packed column and scale column. Hand-written, untrusted.
-/
module

public import proofs.«01_k».proof.Proof.KernelValue
public import proofs.«01_k».proof.Proof.RefValue

@[expose] public section

set_option maxRecDepth 16384

noncomputable section

namespace Cert.Hand

open Idealize.ShloMosaic Idealize.ShloMosaic.TcCoe
open Cert.KernelIdeal.Hand Cert.ReferenceIdeal.Hand Cert.KernelIdeal

/-- The weight the step and half of plane `c` read at a lane: field `fieldOf c` of the word, under the scale of column `c`. -/
theorem weightAt_plane (c : Fin 8) (C : Fin 2 → S6144x128.Idx → BitVec 32) (S : Fin 2 → S48x1024.Idx → EReal) (q : Fin 2) (k : Fin 6144)
    (l : Fin 128) :
    weightAt (stepOf c) C S q k ⟨128 * (halfOf c).val + l.val, by omega⟩ = weight (fieldOf c).val c (C q) (S q) k l := by
  have ed : (128 * (halfOf c).val + l.val) / 128 = (halfOf c).val := by omega
  have em : (⟨(128 * (halfOf c).val + l.val) % 128, by omega⟩ : Fin 128) = l := Fin.ext (show (128 * (halfOf c).val + l.val) % 128 = l.val by omega)
  have eh : (⟨(128 * (halfOf c).val + l.val) / 128, by omega⟩ : Fin 2) = halfOf c := Fin.ext ed
  show weight (2 * (stepOf c).val + (128 * (halfOf c).val + l.val) / 128) (planeOf (stepOf c) ⟨(128 * (halfOf c).val + l.val) / 128, by omega⟩)
    (C q) (S q) k ⟨(128 * (halfOf c).val + l.val) % 128, by omega⟩ = _
  rw [em, eh, ed, plane_step_half]
  rfl

/-- The inputs as the kernel flattens them, at a row. -/
theorem acts_apply (X : S3x384x6144.Idx → EReal) (h) (row : Fin 1152) (k : Fin 6144) :
    (shapeCast S1152x6144 X h : S1152x6144.Idx → EReal) (ix2 row k) = X (ix3 ⟨row.val / 384, by omega⟩ ⟨row.val % 384, by omega⟩ k) := by
  pointwise

/-- One projection of the kernel at a row and column is the reference's. -/
theorem dot_column (X : S3x384x6144.Idx → EReal) (h) (A : S6144x2048.Idx → BitVec 32) (B : S48x16384.Idx → EReal)
    (C : Fin 2 → S6144x128.Idx → BitVec 32) (S : Fin 2 → S48x1024.Idx → EReal) (q : Fin 2) (row : Fin 1152) (col : Fin 16384)
    (hC : C q = colWords A ⟨col.val / 1024, by omega⟩) (hS : S q = colScales B ⟨col.val / 1024, by omega⟩) :
    dotAt (shapeCast S1152x6144 X h) (weightAt (stepOf ⟨col.val % 8, by omega⟩) C S q) row
        ⟨128 * (halfOf ⟨col.val % 8, by omega⟩).val + col.val % 1024 / 8, by omega⟩
      = columnAt X A B ⟨row.val / 384, by omega⟩ ⟨row.val % 384, by omega⟩ ⟨col.val / 8, by omega⟩ ⟨col.val % 8, by omega⟩ := by
  unfold dotAt columnAt
  refine Finset.sum_congr rfl fun k _ => ?_
  rw [acts_apply, weightAt_plane ⟨col.val % 8, by omega⟩ C S q k ⟨col.val % 1024 / 8, by omega⟩, hC, hS]
  have ew : (⟨128 * (col.val / 1024) + col.val % 1024 / 8, by omega⟩ : Fin 2048) = ⟨col.val / 8, by omega⟩ :=
    Fin.ext (show 128 * (col.val / 1024) + col.val % 1024 / 8 = col.val / 8 by omega)
  have es : (⟨1024 * (col.val / 1024) + (8 * (col.val % 1024 / 8) + col.val % 8), by omega⟩ : Fin 16384) = ⟨8 * (col.val / 8) + col.val % 8, by omega⟩ :=
    Fin.ext (show 1024 * (col.val / 1024) + (8 * (col.val % 1024 / 8) + col.val % 8) = 8 * (col.val / 8) + col.val % 8 by omega)
  refine congrArg (X _ * ·) (congrArg₂ (fun w s => code (nib w _) * s) ?_ ?_)
  · exact congrArg (fun z => A (ix2 k z)) ew
  · exact congrArg (fun z => B (ix2 ⟨k.val / 128, by omega⟩ z)) es

/-- The kernel's result is the reference's, as functions of the five arguments. -/
theorem result_eq (m : (ℓ : Loc nD τ sig) → Buf (Elt Ideal) ℓ) (c : Dev nD) :
    resultAt m c = Cert.ReferenceIdeal.Read.val_main_v215 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  funext y
  obtain ⟨row, col, rfl⟩ : ∃ (row : Fin 1152) (col : Fin 16384), y = ix2 row col := ⟨y 0, y 1, by funext a; fin_cases a <;> rfl⟩
  refine Eq.trans ?_ (result_apply _ _ _ _ _ row col).symm
  show planeVal (acts m c) (wordsOf m c ⟨col.val / 1024, by omega⟩) (scalesOf m c ⟨col.val / 1024, by omega⟩) ⟨col.val % 8, by omega⟩ row
    ⟨col.val % 1024 / 8, by omega⟩ = _
  unfold planeVal hiddenAt
  rw [acts_eq]
  exact congrArg₂ (fun g u => g * Ideal.logistic g * u)
    (dot_column _ _ _ _ (wordsOf m c ⟨col.val / 1024, by omega⟩) (scalesOf m c ⟨col.val / 1024, by omega⟩) 0 row col rfl rfl)
    (dot_column _ _ _ _ (wordsOf m c ⟨col.val / 1024, by omega⟩) (scalesOf m c ⟨col.val / 1024, by omega⟩) 1 row col rfl rfl)

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelValue
public import proofs.«01_k».proof.Proof.RefValue
public import proofs.«01_k».proof.Proof.Bridge
public import Idealize.ShloMosaic.Adequacy
public import Idealize.ShloMosaic.Init
public import Idealize.ShloMosaic.Lib.Bf16Pair
public import Idealize.ShloMosaic.Lib.Bf16PairInverse
public import Idealize.ShloMosaic.Lib.QuiescentFlight

@[expose] public section

noncomputable section

namespace Cert.Proof

open Idealize.ShloMosaic Idealize.SL.Sem Cert.Kernel

theorem quiescent_kernel : letI := Cert.Kernel.Gen.facts; Cert.quiescent_Kernel := fun m g _ =>
  (θ_run Cert.Kernel.defs _ _).mono (fun _ h => ⟨Cert.Kernel.Hand.args_kept m h.1, h.2⟩) (Cert.Kernel.Hand.run_main (F := Bits) m g)

theorem quiescent_ideal : letI := Cert.KernelIdeal.Gen.facts; Cert.quiescent_KernelIdeal := fun m g _ =>
  (θ_run Cert.KernelIdeal.defs _ _).mono (fun _ h => ⟨Cert.KernelIdeal.Hand.args_kept m h.1, h.2⟩) (Cert.KernelIdeal.Hand.run_main m g)

theorem quiescent_reference : letI := Cert.ReferenceIdeal.Gen.facts; Cert.quiescent_ReferenceIdeal := fun m g _ =>
  (θ_run Cert.ReferenceIdeal.defs _ _).mono (fun _ h => ⟨fun c => (h c).2, sem_eq_zero_of_no_sems (by decide) _⟩) (Cert.ReferenceIdeal.Value.run (F := Ideal) m g)

theorem preserves : Cert.preserves_Kernel_KernelIdeal :=
  ⟨IdealRules.bf16_pair.bufferStatement Cert.KernelIdeal.S2x8x48x2x128 Cert.KernelIdeal.S2x8x48x1x128,
    IdealRules.bf16_pair.bufferStatement Cert.KernelIdeal.S8x576x2x128 Cert.KernelIdeal.S8x576x1x128,
    IdealRules.bf16_pair.statement Cert.KernelIdeal.S16x128 Cert.KernelIdeal.S8x128,
    IdealRules.bf16_pair.statement Cert.KernelIdeal.S1x1x8x2x128 Cert.KernelIdeal.S1x1x8x1x128,
    IdealRules.bf16_pair.statement Cert.KernelIdeal.S1x1x1x2x128 Cert.KernelIdeal.S1x1x1x1x128,
    IdealRules.bf16_pair.statement Cert.KernelIdeal.S384x128 Cert.KernelIdeal.S192x128,
    IdealRules.bf16_pair.statement Cert.KernelIdeal.S1x192x2x128 Cert.KernelIdeal.S1x192x1x128,
    IdealRules.bf16_pair.statement Cert.KernelIdeal.S1x8x2x128 Cert.KernelIdeal.S1x8x1x128⟩

/-- Both programs end with the kernel's result at every row and column: the reference's value, read at the arguments the two share. -/
theorem algebraic : letI := Cert.KernelIdeal.Gen.facts; letI := Cert.ReferenceIdeal.Gen.facts; Cert.algebraic_KernelIdeal_ReferenceIdeal := fun m g m' g' _ hagree =>
  ⟨fun c => Cert.KernelIdeal.Hand.resultAt m c,
    (θ_run Cert.KernelIdeal.defs _ _).mono
      (fun _ h c => ⟨((h.1 c).1 5).trans (Cert.KernelIdeal.Hand.final_v1 m c), Cert.KernelIdeal.Hand.args_kept m h.1 c⟩)
      (Cert.KernelIdeal.Hand.run_main m g),
    (θ_run Cert.ReferenceIdeal.defs _ _).mono
      (fun _ h c => ⟨(h c).1.trans ((Cert.ReferenceIdeal.Read.val_main_v215_eq (StableHlo.launchContents m' c)).trans (by
          obtain ⟨e0, e1, e2, e3, e4⟩ := hagree c
          rw [StableHlo.launchContents_devRef, StableHlo.launchContents_devRef, StableHlo.launchContents_devRef,
            StableHlo.launchContents_devRef, StableHlo.launchContents_devRef, e0, e1, e2, e3, e4]
          exact (Cert.Hand.result_eq m c).symm)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, quiescent_kernel, quiescent_ideal, quiescent_reference,
    preserves, algebraic⟩

end Cert.Proof

end
